-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_grid [hPre_in_grid : Cert.Pre_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_grid [hPre_in_grid : Cert.Pre_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_grid [hKernelIdeal : Cert.KernelIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_grid [hReferenceIdeal : Cert.ReferenceIdeal.Facts] [hPre_in_grid : Cert.Pre_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "step" .f32 0x3D888889#32 ((1 / 15 : ℝ) : EReal)
  ∧ IdealRules.named_const.Statement Cert.KernelIdeal.κ "three_steps" .f32 0x3E4CCCCD#32 ((1 / 5 : ℝ) : EReal)
  ∧ IdealRules.named_const.Statement Cert.KernelIdeal.κ "six_steps" .f32 0x3ECCCCCD#32 ((2 / 5 : ℝ) : EReal)
  ∧ IdealRules.named_const.Statement Cert.KernelIdeal.κ "two_steps_eps" .f32 0x3E088889#32 ((4611686018461975549 / 34587645138205409280 : ℝ) : EReal)
  ∧ IdealRules.named_const.Statement Cert.KernelIdeal.κ "inv_step_eps" .f32 0x41700000#32 ((34587645138205409280 / 2305843009248281597 : ℝ) : EReal)
  ∧ IdealRules.named_const.Statement Cert.KernelIdeal.κ "step" .bf16 0x3D89#16 ((1 / 15 : ℝ) : EReal)

def algebraic_KernelIdeal_ReferenceIdeal_pre_in_grid [hKernelIdeal : Cert.KernelIdeal.Facts] [hReferenceIdeal : Cert.ReferenceIdeal.Facts] [hPre_in_grid : Cert.Pre_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_grid : Cert.Pre_in_grid.Facts),
    quiescent_Kernel (hKernel := hKernel)
    ∧ quiescent_KernelIdeal (hKernelIdeal := hKernelIdeal)
    ∧ quiescent_KernelIdeal_pre_in_grid (hKernelIdeal := hKernelIdeal) (hPre_in_grid := hPre_in_grid)
    ∧ quiescent_ReferenceIdeal (hReferenceIdeal := hReferenceIdeal)
    ∧ quiescent_ReferenceIdeal_pre_in_grid (hReferenceIdeal := hReferenceIdeal) (hPre_in_grid := hPre_in_grid)
    ∧ preserves_Kernel_KernelIdeal
    ∧ algebraic_KernelIdeal_ReferenceIdeal_pre_in_grid (hKernelIdeal := hKernelIdeal) (hReferenceIdeal := hReferenceIdeal) (hPre_in_grid := hPre_in_grid)
-- ==== Pre_in_grid.lean ====
abbrev S2048x128 : Shape := ⟨2, ![2048, 128]⟩
abbrev S16 : Shape := ⟨1, ![16]⟩
abbrev S128x128x16 : Shape := ⟨3, ![128, 128, 16]⟩
abbrev S128 : Shape := ⟨1, ![128]⟩
abbrev S_ : Shape := ⟨0, ![]⟩
abbrev S15 : Shape := ⟨1, ![15]⟩
abbrev S1 : Shape := ⟨1, ![1]⟩

class Facts : Prop where
  bcast_S_S2048x128 : S_.BroadcastsInDim S2048x128 (![] : Fin 0 → Fin S2048x128.rank)
  bcast_S_S15 : S_.BroadcastsInDim S15 (![] : Fin 0 → Fin S15.rank)
  shapeCasts_S_S1 : S_.ShapeCasts S1
  bcast_S1_S15_0 : S1.BroadcastsInDim S15 (![0] : Fin 1 → Fin S15.rank)
  bcast_S_S1 : S_.BroadcastsInDim S1 (![] : Fin 0 → Fin S1.rank)
  concatenates_S15_S1_S16_d0 : Shape.Concatenates [S15, S1] S16 0

variable [Facts]

def fn_linspace {F : FTy → Type} [FloatOps F] (arg0 : FVec F S_ .f32) (arg1 : FVec F S_ .f32) : FVec F S16 .f32 :=
  let v0 : FVec F S_ .f32 := id arg0
  let v1 : FVec F S_ .f32 := id arg1
  let v2 : FVec F S_ .f32 := subf v1 v0
  let cst : FVec F S_ .f32 := constant S_ .f32 0x41700000#32
  let v3 : FVec F S_ .f32 := Host.divf v2 cst
  let v4 : FVec F S15 .f32 := sitofp .f32 (iotaInDim S15 32 0)
  let cst_0 : FVec F S_ .f32 := constant S_ .f32 0x41700000#32
  let v5 : FVec F S15 .f32 := broadcastInDim S15 ![] bcast_S_S15 cst_0
  let v6 : FVec F S15 .f32 := Host.divf v4 v5
  let v7 : FVec F S1 .f32 := shapeCast S1 v0 shapeCasts_S_S1
  let cst_1 : FVec F S_ .f32 := constant S_ .f32 0x3F800000#32
  let v8 : FVec F S15 .f32 := broadcastInDim S15 ![] bcast_S_S15 cst_1
  let v9 : FVec F S15 .f32 := subf v8 v6
  let v10 : FVec F S15 .f32 := broadcastInDim S15 ![0] bcast_S1_S15_0 v7
  let v11 : FVec F S15 .f32 := mulf v10 v9
  let v12 : FVec F S1 .f32 := shapeCast S1 v1 shapeCasts_S_S1
  let v13 : FVec F S15 .f32 := broadcastInDim S15 ![0] bcast_S1_S15_0 v12
  let v14 : FVec F S15 .f32 := mulf v13 v6
  let v15 : FVec F S15 .f32 := addf v11 v14
  let v16 : FVec F S1 .f32 := broadcastInDim S1 ![] bcast_S_S1 v1
  let v17 : FVec F S16 .f32 := (fun a b => concatenate S16 0 [⟨S15, a⟩, ⟨S1, b⟩] concatenates_S15_S1_S16_d0) v15 v16
  v17

def fn {F : FTy → Type} [FloatOps F] (main_arg0 : FVec F S2048x128 .f32) (main_arg1 : FVec F S16 .f32) (main_arg2 : FVec F S128x128x16 .f32) (main_arg3 : FVec F S128 .f32) : IVec S2048x128 1 × IVec S16 1 :=
  let main_cst : FVec F S_ .f32 := constant S_ .f32 0x00000000#32
  let main_v0 : FVec F S2048x128 .f32 := broadcastInDim S2048x128 ![] bcast_S_S2048x128 main_cst
  let main_v1 : IVec S2048x128 1 := cmpf .oge main_arg0 main_v0
  let main_cst_0 : FVec F S_ .f32 := constant S_ .f32 0x3F800000#32
  let main_v2 : FVec F S2048x128 .f32 := broadcastInDim S2048x128 ![] bcast_S_S2048x128 main_cst_0
  let main_v3 : IVec S2048x128 1 := cmpf .ole main_arg0 main_v2
  let main_v4 : IVec S2048x128 1 := andi main_v1 main_v3
  let main_cst_1 : FVec F S_ .f32 := constant S_ .f32 0x00000000#32
  let main_cst_2 : FVec F S_ .f32 := constant S_ .f32 0x3F800000#32
  let main_v5 : FVec F S16 .f32 := fn_linspace (F := F) main_cst_1 main_cst_2
  let main_v6 : IVec S16 1 := cmpf .oeq main_arg1 main_v5
  (main_v4, main_v6)
-- ==== Kernel.lean ====
abbrev S2048x128 : Shape := ⟨2, ![2048, 128]⟩
abbrev S16 : Shape := ⟨1, ![16]⟩
abbrev S128x128x16 : Shape := ⟨3, ![128, 128, 16]⟩
abbrev S128 : Shape := ⟨1, ![128]⟩
abbrev S16x128x128 : Shape := ⟨3, ![16, 128, 128]⟩
abbrev S1x128 : Shape := ⟨2, ![1, 128]⟩
abbrev S4096x128 : Shape := ⟨2, ![4096, 128]⟩
abbrev S1x128x128 : Shape := ⟨3, ![1, 128, 128]⟩
abbrev S128x128 : Shape := ⟨2, ![128, 128]⟩
abbrev S2048x4096 : Shape := ⟨2, ![2048, 4096]⟩

abbrev nBuf : Space → Nat
  | .hbm => 8
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S16, .f32⟩
  | .hbm, ⟨2, _⟩ => ⟨S128x128x16, .f32⟩
  | .hbm, ⟨3, _⟩ => ⟨S128, .f32⟩
  | .hbm, ⟨4, _⟩ => ⟨S128x128x16, .bf16⟩
  | .hbm, ⟨5, _⟩ => ⟨S16x128x128, .bf16⟩
  | .hbm, ⟨6, _⟩ => ⟨S1x128, .f32⟩
  | .hbm, ⟨7, _⟩ => ⟨S2048x128, .f32⟩
  | .local _ .vmem, ⟨0, _⟩ => ⟨S2048x128, .f32⟩
  | .local _ .vmem, ⟨1, _⟩ => ⟨S16x128x128, .bf16⟩
  | .local _ .vmem, ⟨2, _⟩ => ⟨S1x128, .f32⟩
  | .local _ .vmem, ⟨3, _⟩ => ⟨S2048x128, .f32⟩
  | .local _ .vmem, ⟨4, _⟩ => ⟨S4096x128, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_step_eps" => some ((34587645138205409280 / 2305843009248281597 : ℝ) : EReal)
  | "six_steps" => some ((2 / 5 : ℝ) : EReal)
  | "step" => some ((1 / 15 : ℝ) : EReal)
  | "three_steps" => some ((1 / 5 : ℝ) : EReal)
  | "two_steps_eps" => some ((4611686018461975549 / 34587645138205409280 : ℝ) : EReal)
  | _ => none
-- ==== ReferenceIdeal.lean ====
abbrev S2048x128 : Shape := ⟨2, ![2048, 128]⟩
abbrev S16 : Shape := ⟨1, ![16]⟩
abbrev S128x128x16 : Shape := ⟨3, ![128, 128, 16]⟩
abbrev S128 : Shape := ⟨1, ![128]⟩
abbrev S15 : Shape := ⟨1, ![15]⟩
abbrev S128x128x15 : Shape := ⟨3, ![128, 128, 15]⟩
abbrev S_ : Shape := ⟨0, ![]⟩
abbrev S1x1x15 : Shape := ⟨3, ![1, 1, 15]⟩
abbrev S14 : Shape := ⟨1, ![14]⟩
abbrev S128x128x14 : Shape := ⟨3, ![128, 128, 14]⟩
abbrev S1x1x14 : Shape := ⟨3, ![1, 1, 14]⟩
abbrev S1 : Shape := ⟨1, ![1]⟩
abbrev S128x128x1 : Shape := ⟨3, ![128, 128, 1]⟩
abbrev S128x128 : Shape := ⟨2, ![128, 128]⟩
abbrev S2048x1x128 : Shape := ⟨3, ![2048, 1, 128]⟩
abbrev S2048x128x128 : Shape := ⟨3, ![2048, 128, 128]⟩
abbrev S1x128x1 : Shape := ⟨3, ![1, 128, 1]⟩
abbrev S1x1x128 : Shape := ⟨3, ![1, 1, 128]⟩
abbrev S2048x128x128x1 : Shape := ⟨4, ![2048, 128, 128, 1]⟩
abbrev S2048x128x128x3 : Shape := ⟨4, ![2048, 128, 128, 3]⟩
abbrev S1x128x128 : Shape := ⟨3, ![1, 128, 128]⟩
abbrev S1x128 : Shape := ⟨2, ![1, 128]⟩

abbrev nBuf : Space → Nat
  | .hbm => 402
  | .vmem => 0
  | .smem => 0
  | _ => 0

abbrev hbmTy0_0 (i : Nat) : BufTy := match i % 128 with
  | 0 => ⟨S2048x128, .f32⟩
  | 1 => ⟨S16, .f32⟩
  | 2 => ⟨S128x128x16, .f32⟩
  | 3 => ⟨S128, .f32⟩
  | 4 => ⟨S15, .f32⟩
  | 5 => ⟨S15, .f32⟩
  | 6 => ⟨S15, .f32⟩
  | 7 => ⟨S128x128x15, .f32⟩
  | 8 => ⟨S128x128x15, .f32⟩
  | 9 => ⟨S128x128x15, .f32⟩
  | 10 => ⟨S_, .f32⟩
  | 11 => ⟨S15, .f32⟩
  | 12 => ⟨S15, .f32⟩
  | 13 => ⟨S1x1x15, .f32⟩
  | 14 => ⟨S128x128x15, .f32⟩
  | 15 => ⟨S128x128x15, .f32⟩
  | 16 => ⟨S14, .f32⟩
  | 17 => ⟨S14, .f32⟩
  | 18 => ⟨S_, .f32⟩
  | 19 => ⟨S14, .f32⟩
  | 20 => ⟨S14, .f32⟩
  | 21 => ⟨S14, .f32⟩
  | 22 => ⟨S_, .f32⟩
  | 23 => ⟨S14, .f32⟩
  | 24 => ⟨S14, .f32⟩
  | 25 => ⟨S14, .f32⟩
  | 26 => ⟨S128x128x14, .f32⟩
  | 27 => ⟨S128x128x14, .f32⟩
  | 28 => ⟨S128x128x14, .f32⟩
  | 29 => ⟨S_, .f32⟩
  | 30 => ⟨S128x128x14, .f32⟩
  | 31 => ⟨S128x128x14, .i1⟩
  | 32 => ⟨S_, .f32⟩
  | 33 => ⟨S128x128x14, .f32⟩
  | 34 => ⟨S128x128x14, .f32⟩
  | 35 => ⟨S1x1x14, .f32⟩
  | 36 => ⟨S128x128x14, .f32⟩
  | 37 => ⟨S128x128x14, .f32⟩
  | 38 => ⟨S_, .f32⟩
  | 39 => ⟨S128x128x14, .f32⟩
  | 40 => ⟨S128x128x14, .f32⟩
  | 41 => ⟨S1x1x14, .f32⟩
  | 42 => ⟨S128x128x14, .f32⟩
  | 43 => ⟨S128x128x14, .f32⟩
  | 44 => ⟨S128x128x14, .f32⟩
  | 45 => ⟨S14, .f32⟩
  | 46 => ⟨S_, .f32⟩
  | 47 => ⟨S128x128x14, .f32⟩
  | 48 => ⟨S128x128x14, .f32⟩
  | 49 => ⟨S1x1x14, .f32⟩
  | 50 => ⟨S128x128x14, .f32⟩
  | 51 => ⟨S128x128x14, .f32⟩
  | 52 => ⟨S_, .f32⟩
  | 53 => ⟨S128x128x14, .f32⟩
  | 54 => ⟨S128x128x14, .f32⟩
  | 55 => ⟨S1, .f32⟩
  | 56 => ⟨S_, .f32⟩
  | 57 => ⟨S_, .f32⟩
  | 58 => ⟨S_, .f32⟩
  | 59 => ⟨S1, .f32⟩
  | 60 => ⟨S_, .f32⟩
  | 61 => ⟨S_, .f32⟩
  | 62 => ⟨S128x128x1, .f32⟩
  | 63 => ⟨S128x128, .f32⟩
  | 64 => ⟨S128x128, .f32⟩
  | 65 => ⟨S128x128, .f32⟩
  | 66 => ⟨S1, .f32⟩
  | 67 => ⟨S_, .f32⟩
  | 68 => ⟨S128x128x1, .f32⟩
  | 69 => ⟨S128x128, .f32⟩
  | 70 => ⟨S128x128, .f32⟩
  | 71 => ⟨S128x128, .f32⟩
  | 72 => ⟨S128x128, .f32⟩
  | 73 => ⟨S1, .f32⟩
  | 74 => ⟨S_, .f32⟩
  | 75 => ⟨S1, .f32⟩
  | 76 => ⟨S_, .f32⟩
  | 77 => ⟨S_, .f32⟩
  | 78 => ⟨S_, .f32⟩
  | 79 => ⟨S_, .f32⟩
  | 80 => ⟨S128x128, .f32⟩
  | 81 => ⟨S128x128, .f32⟩
  | 82 => ⟨S128x128x1, .f32⟩
  | 83 => ⟨S128x128, .f32⟩
  | 84 => ⟨S128x128, .f32⟩
  | 85 => ⟨S_, .f32⟩
  | 86 => ⟨S128x128, .f32⟩
  | 87 => ⟨S128x128, .i1⟩
  | 88 => ⟨S_, .f32⟩
  | 89 => ⟨S128x128, .f32⟩
  | 90 => ⟨S128x128, .f32⟩
  | 91 => ⟨S128x128x1, .f32⟩
  | 92 => ⟨S128x128, .f32⟩
  | 93 => ⟨S128x128x1, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S128x128, .f32⟩
  | 100 => ⟨S128x128x1, .f32⟩
  | 101 => ⟨S128x128, .f32⟩
  | 102 => ⟨S128x128, .f32⟩
  | 103 => ⟨S_, .f32⟩
  | 104 => ⟨S128x128, .f32⟩
  | 105 => ⟨S128x128, .f32⟩
  | 106 => ⟨S128x128, .i1⟩
  | 107 => ⟨S128x128, .i1⟩
  | 108 => ⟨S128x128x1, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S1, .f32⟩
  | 115 => ⟨S_, .f32⟩
  | 116 => ⟨S_, .f32⟩
  | 117 => ⟨S_, .f32⟩
  | 118 => ⟨S1, .f32⟩
  | 119 => ⟨S_, .f32⟩
  | 120 => ⟨S_, .f32⟩
  | 121 => ⟨S128x128x1, .f32⟩
  | 122 => ⟨S128x128, .f32⟩
  | 123 => ⟨S128x128, .f32⟩
  | 124 => ⟨S128x128, .f32⟩
  | 125 => ⟨S1, .f32⟩
  | 126 => ⟨S_, .f32⟩
  | 127 => ⟨S128x128x1, .f32⟩
  | _ => ⟨S2048x128, .f32⟩

abbrev hbmTy0_1 (i : Nat) : BufTy := match i % 128 with
  | 0 => ⟨S128x128, .f32⟩
  | 1 => ⟨S128x128, .f32⟩
  | 2 => ⟨S128x128, .f32⟩
  | 3 => ⟨S128x128, .f32⟩
  | 4 => ⟨S1, .f32⟩
  | 5 => ⟨S_, .f32⟩
  | 6 => ⟨S1, .f32⟩
  | 7 => ⟨S_, .f32⟩
  | 8 => ⟨S_, .f32⟩
  | 9 => ⟨S_, .f32⟩
  | 10 => ⟨S_, .f32⟩
  | 11 => ⟨S128x128, .f32⟩
  | 12 => ⟨S128x128, .f32⟩
  | 13 => ⟨S128x128x1, .f32⟩
  | 14 => ⟨S128x128, .f32⟩
  | 15 => ⟨S128x128, .f32⟩
  | 16 => ⟨S_, .f32⟩
  | 17 => ⟨S128x128, .f32⟩
  | 18 => ⟨S128x128, .i1⟩
  | 19 => ⟨S_, .f32⟩
  | 20 => ⟨S128x128, .f32⟩
  | 21 => ⟨S128x128, .f32⟩
  | 22 => ⟨S128x128x1, .f32⟩
  | 23 => ⟨S128x128, .f32⟩
  | 24 => ⟨S128x128x1, .f32⟩
  | 25 => ⟨S128x128, .f32⟩
  | 26 => ⟨S128x128, .f32⟩
  | 27 => ⟨S_, .f32⟩
  | 28 => ⟨S128x128, .f32⟩
  | 29 => ⟨S128x128, .i1⟩
  | 30 => ⟨S128x128, .f32⟩
  | 31 => ⟨S128x128x1, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S128x128, .i1⟩
  | 38 => ⟨S128x128, .i1⟩
  | 39 => ⟨S128x128x1, .f32⟩
  | 40 => ⟨S128x128, .f32⟩
  | 41 => ⟨S_, .f32⟩
  | 42 => ⟨S128x128, .f32⟩
  | 43 => ⟨S128x128, .f32⟩
  | 44 => ⟨S128x128, .f32⟩
  | 45 => ⟨S128x128x1, .f32⟩
  | 46 => ⟨S128x128x1, .f32⟩
  | 47 => ⟨S128x128x16, .f32⟩
  | 48 => ⟨S2048x1x128, .f32⟩
  | 49 => ⟨S2048x128x128, .f32⟩
  | 50 => ⟨S1, .f32⟩
  | 51 => ⟨S_, .f32⟩
  | 52 => ⟨S1, .f32⟩
  | 53 => ⟨S_, .f32⟩
  | 54 => ⟨S2048x128x128, .f32⟩
  | 55 => ⟨S2048x128x128, .i1⟩
  | 56 => ⟨S2048x128x128, .f32⟩
  | 57 => ⟨S2048x128x128, .i1⟩
  | 58 => ⟨S2048x128x128, .i1⟩
  | 59 => ⟨S2048x128x128, .i1⟩
  | 60 => ⟨S2048x128x128, .i1⟩
  | 61 => ⟨S_, .f32⟩
  | 62 => ⟨S_, .f32⟩
  | 63 => ⟨S_, .f32⟩
  | 64 => ⟨S2048x128x128, .f32⟩
  | 65 => ⟨S2048x128x128, .f32⟩
  | 66 => ⟨S_, .f32⟩
  | 67 => ⟨S_, .f32⟩
  | 68 => ⟨S2048x128x128, .f32⟩
  | 69 => ⟨S2048x128x128, .f32⟩
  | 70 => ⟨S2048x128x128, .f32⟩
  | 71 => ⟨S2048x128x128, .i32⟩
  | 72 => ⟨S_, .i32⟩
  | 73 => ⟨S_, .i32⟩
  | 74 => ⟨S_, .i32⟩
  | 75 => ⟨S2048x128x128, .i32⟩
  | 76 => ⟨S2048x128x128, .i32⟩
  | 77 => ⟨S_, .i32⟩
  | 78 => ⟨S2048x128x128, .i32⟩
  | 79 => ⟨S2048x128x128, .i32⟩
  | 80 => ⟨S2048x128x128, .f32⟩
  | 81 => ⟨S2048x128x128, .f32⟩
  | 82 => ⟨S128, .i32⟩
  | 83 => ⟨S1x128x1, .i32⟩
  | 84 => ⟨S128, .i32⟩
  | 85 => ⟨S1x1x128, .i32⟩
  | 86 => ⟨S_, .i32⟩
  | 87 => ⟨S1x128x1, .i32⟩
  | 88 => ⟨S1x128x1, .i1⟩
  | 89 => ⟨S_, .i32⟩
  | 90 => ⟨S1x128x1, .i32⟩
  | 91 => ⟨S1x128x1, .i32⟩
  | 92 => ⟨S1x128x1, .i32⟩
  | 93 => ⟨S_, .i32⟩
  | 94 => ⟨S1x1x128, .i32⟩
  | 95 => ⟨S1x1x128, .i1⟩
  | 96 => ⟨S_, .i32⟩
  | 97 => ⟨S1x1x128, .i32⟩
  | 98 => ⟨S1x1x128, .i32⟩
  | 99 => ⟨S1x1x128, .i32⟩
  | 100 => ⟨S_, .i32⟩
  | 101 => ⟨S2048x128x128, .i32⟩
  | 102 => ⟨S2048x128x128, .i1⟩
  | 103 => ⟨S_, .i32⟩
  | 104 => ⟨S2048x128x128, .i32⟩
  | 105 => ⟨S2048x128x128, .i32⟩
  | 106 => ⟨S2048x128x128, .i32⟩
  | 107 => ⟨S2048x128x128, .i32⟩
  | 108 => ⟨S2048x128x128, .i32⟩
  | 109 => ⟨S2048x128x128x1, .i32⟩
  | 110 => ⟨S2048x128x128x1, .i32⟩
  | 111 => ⟨S2048x128x128x1, .i32⟩
  | 112 => ⟨S2048x128x128x3, .i32⟩
  | 113 => ⟨S2048x128x128, .f32⟩
  | 114 => ⟨S_, .i32⟩
  | 115 => ⟨S2048x128x128, .i32⟩
  | 116 => ⟨S2048x128x128, .i32⟩
  | 117 => ⟨S_, .i32⟩
  | 118 => ⟨S1x128x1, .i32⟩
  | 119 => ⟨S1x128x1, .i1⟩
  | 120 => ⟨S_, .i32⟩
  | 121 => ⟨S1x128x1, .i32⟩
  | 122 => ⟨S1x128x1, .i32⟩
  | 123 => ⟨S1x128x1, .i32⟩
  | 124 => ⟨S_, .i32⟩
  | 125 => ⟨S1x1x128, .i32⟩
  | 126 => ⟨S1x1x128, .i1⟩
  | 127 => ⟨S_, .i32⟩
  | _ => ⟨S2048x128, .f32⟩

abbrev hbmTy0_2 (i : Nat) : BufTy := match i % 128 with
  | 0 => ⟨S1x1x128, .i32⟩
  | 1 => ⟨S1x1x128, .i32⟩
  | 2 => ⟨S1x1x128, .i32⟩
  | 3 => ⟨S_, .i32⟩
  | 4 => ⟨S2048x128x128, .i32⟩
  | 5 => ⟨S2048x128x128, .i1⟩
  | 6 => ⟨S_, .i32⟩
  | 7 => ⟨S2048x128x128, .i32⟩
  | 8 => ⟨S2048x128x128, .i32⟩
  | 9 => ⟨S2048x128x128, .i32⟩
  | 10 => ⟨S2048x128x128, .i32⟩
  | 11 => ⟨S2048x128x128, .i32⟩
  | 12 => ⟨S2048x128x128x1, .i32⟩
  | 13 => ⟨S2048x128x128x1, .i32⟩
  | 14 => ⟨S2048x128x128x1, .i32⟩
  | 15 => ⟨S2048x128x128x3, .i32⟩
  | 16 => ⟨S2048x128x128, .f32⟩
  | 17 => ⟨S_, .i32⟩
  | 18 => ⟨S1x128x1, .i32⟩
  | 19 => ⟨S1x128x1, .i1⟩
  | 20 => ⟨S_, .i32⟩
  | 21 => ⟨S1x128x1, .i32⟩
  | 22 => ⟨S1x128x1, .i32⟩
  | 23 => ⟨S1x128x1, .i32⟩
  | 24 => ⟨S_, .i32⟩
  | 25 => ⟨S1x1x128, .i32⟩
  | 26 => ⟨S1x1x128, .i1⟩
  | 27 => ⟨S_, .i32⟩
  | 28 => ⟨S1x1x128, .i32⟩
  | 29 => ⟨S1x1x128, .i32⟩
  | 30 => ⟨S1x1x128, .i32⟩
  | 31 => ⟨S_, .i32⟩
  | 32 => ⟨S2048x128x128, .i32⟩
  | 33 => ⟨S2048x128x128, .i1⟩
  | 34 => ⟨S_, .i32⟩
  | 35 => ⟨S2048x128x128, .i32⟩
  | 36 => ⟨S2048x128x128, .i32⟩
  | 37 => ⟨S2048x128x128, .i32⟩
  | 38 => ⟨S2048x128x128, .i32⟩
  | 39 => ⟨S2048x128x128, .i32⟩
  | 40 => ⟨S2048x128x128x1, .i32⟩
  | 41 => ⟨S2048x128x128x1, .i32⟩
  | 42 => ⟨S2048x128x128x1, .i32⟩
  | 43 => ⟨S2048x128x128x3, .i32⟩
  | 44 => ⟨S2048x128x128, .f32⟩
  | 45 => ⟨S_, .i32⟩
  | 46 => ⟨S2048x128x128, .i32⟩
  | 47 => ⟨S2048x128x128, .i32⟩
  | 48 => ⟨S_, .i32⟩
  | 49 => ⟨S1x128x1, .i32⟩
  | 50 => ⟨S1x128x1, .i1⟩
  | 51 => ⟨S_, .i32⟩
  | 52 => ⟨S1x128x1, .i32⟩
  | 53 => ⟨S1x128x1, .i32⟩
  | 54 => ⟨S1x128x1, .i32⟩
  | 55 => ⟨S_, .i32⟩
  | 56 => ⟨S1x1x128, .i32⟩
  | 57 => ⟨S1x1x128, .i1⟩
  | 58 => ⟨S_, .i32⟩
  | 59 => ⟨S1x1x128, .i32⟩
  | 60 => ⟨S1x1x128, .i32⟩
  | 61 => ⟨S1x1x128, .i32⟩
  | 62 => ⟨S_, .i32⟩
  | 63 => ⟨S2048x128x128, .i32⟩
  | 64 => ⟨S2048x128x128, .i1⟩
  | 65 => ⟨S_, .i32⟩
  | 66 => ⟨S2048x128x128, .i32⟩
  | 67 => ⟨S2048x128x128, .i32⟩
  | 68 => ⟨S2048x128x128, .i32⟩
  | 69 => ⟨S2048x128x128, .i32⟩
  | 70 => ⟨S2048x128x128, .i32⟩
  | 71 => ⟨S2048x128x128x1, .i32⟩
  | 72 => ⟨S2048x128x128x1, .i32⟩
  | 73 => ⟨S2048x128x128x1, .i32⟩
  | 74 => ⟨S2048x128x128x3, .i32⟩
  | 75 => ⟨S2048x128x128, .f32⟩
  | 76 => ⟨S2048x128x128, .f32⟩
  | 77 => ⟨S2048x128x128, .f32⟩
  | 78 => ⟨S_, .f32⟩
  | 79 => ⟨S2048x128x128, .f32⟩
  | 80 => ⟨S2048x128x128, .f32⟩
  | 81 => ⟨S_, .f32⟩
  | 82 => ⟨S2048x128x128, .f32⟩
  | 83 => ⟨S2048x128x128, .f32⟩
  | 84 => ⟨S2048x128x128, .f32⟩
  | 85 => ⟨S_, .f32⟩
  | 86 => ⟨S2048x128x128, .f32⟩
  | 87 => ⟨S2048x128x128, .f32⟩
  | 88 => ⟨S_, .f32⟩
  | 89 => ⟨S2048x128x128, .f32⟩
  | 90 => ⟨S2048x128x128, .f32⟩
  | 91 => ⟨S2048x128x128, .f32⟩
  | 92 => ⟨S2048x128x128, .f32⟩
  | 93 => ⟨S_, .f32⟩
  | 94 => ⟨S2048x128x128, .f32⟩
  | 95 => ⟨S2048x128x128, .f32⟩
  | 96 => ⟨S_, .f32⟩
  | 97 => ⟨S2048x128x128, .f32⟩
  | 98 => ⟨S2048x128x128, .f32⟩
  | 99 => ⟨S2048x128x128, .f32⟩
  | 100 => ⟨S2048x128x128, .f32⟩
  | 101 => ⟨S2048x128x128, .f32⟩
  | 102 => ⟨S2048x128x128, .f32⟩
  | 103 => ⟨S2048x128x128, .f32⟩
  | 104 => ⟨S2048x128x128, .f32⟩
  | 105 => ⟨S2048x128x128, .f32⟩
  | 106 => ⟨S2048x128x128, .f32⟩
  | 107 => ⟨S2048x128x128, .f32⟩
  | 108 => ⟨S2048x128x128, .f32⟩
  | 109 => ⟨S2048x128x128, .f32⟩
  | 110 => ⟨S2048x128x128, .f32⟩
  | 111 => ⟨S2048x128x128, .f32⟩
  | 112 => ⟨S128x128x1, .f32⟩
  | 113 => ⟨S128x128, .f32⟩
  | 114 => ⟨S1x128x128, .f32⟩
  | 115 => ⟨S128x128x1, .f32⟩
  | 116 => ⟨S128x128, .f32⟩
  | 117 => ⟨S1x128x128, .f32⟩
  | 118 => ⟨S2048x128x128, .f32⟩
  | 119 => ⟨S2048x128x128, .f32⟩
  | 120 => ⟨S2048x128x128, .f32⟩
  | 121 => ⟨S2048x128x128, .f32⟩
  | 122 => ⟨S2048x128x128, .f32⟩
  | 123 => ⟨S2048x128x128, .f32⟩
  | 124 => ⟨S128x128x1, .f32⟩
  | 125 => ⟨S128x128, .f32⟩
  | 126 => ⟨S1x128x128, .f32⟩
  | 127 => ⟨S128x128x1, .f32⟩
  | _ => ⟨S2048x128, .f32⟩

abbrev hbmTy0_3 (i : Nat) : BufTy := match i % 128 with
  | 0 => ⟨S128x128, .f32⟩
  | 1 => ⟨S1x128x128, .f32⟩
  | 2 => ⟨S2048x128x128, .f32⟩
  | 3 => ⟨S2048x128x128, .f32⟩
  | 4 => ⟨S2048x128x128, .f32⟩
  | 5 => ⟨S2048x128x128, .f32⟩
  | 6 => ⟨S2048x128x128, .f32⟩
  | 7 => ⟨S2048x128x128, .f32⟩
  | 8 => ⟨S_, .f32⟩
  | 9 => ⟨S2048x128x128, .f32⟩
  | 10 => ⟨S2048x128x128, .f32⟩
  | 11 => ⟨S2048x128x128, .f32⟩
  | 12 => ⟨S2048x128x128, .f32⟩
  | 13 => ⟨S_, .f32⟩
  | 14 => ⟨S2048x128, .f32⟩
  | 15 => ⟨S1x128, .f32⟩
  | 16 => ⟨S2048x128, .f32⟩
  | 17 => ⟨S2048x128, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_9 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_11 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_12 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_14 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_15 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_cst_16 : Ref sig .tc := ⟨.hbm, 144, rfl⟩
abbrev main_v123 : Ref sig .tc := ⟨.hbm, 145, rfl⟩
abbrev main_v124 : Ref sig .tc := ⟨.hbm, 146, rfl⟩
abbrev main_cst_17 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_18 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_19 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_cst_20 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_21 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_22 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_c : Ref sig .tc := ⟨.hbm, 200, rfl⟩
abbrev main_c_23 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_c_24 : Ref sig .tc := ⟨.hbm, 214, rfl⟩
abbrev main_v179 : Ref sig .tc := ⟨.hbm, 215, rfl⟩
abbrev main_v180 : Ref sig .tc := ⟨.hbm, 216, rfl⟩
abbrev main_c_25 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_c_26 : Ref sig .tc := ⟨.hbm, 221, rfl⟩
abbrev main_v184 : Ref sig .tc := ⟨.hbm, 222, rfl⟩
abbrev main_v185 : Ref sig .tc := ⟨.hbm, 223, rfl⟩
abbrev main_c_27 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_c_28 : Ref sig .tc := ⟨.hbm, 228, rfl⟩
abbrev main_v189 : Ref sig .tc := ⟨.hbm, 229, rfl⟩
abbrev main_v190 : Ref sig .tc := ⟨.hbm, 230, rfl⟩
abbrev main_c_29 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_c_30 : Ref sig .tc := ⟨.hbm, 242, rfl⟩
abbrev main_v201 : Ref sig .tc := ⟨.hbm, 243, rfl⟩
abbrev main_v202 : Ref sig .tc := ⟨.hbm, 244, rfl⟩
abbrev main_c_31 : Ref sig .tc := ⟨.hbm, 245, rfl⟩
abbrev main_v203 : Ref sig .tc := ⟨.hbm, 246, rfl⟩
abbrev main_v204 : Ref sig .tc := ⟨.hbm, 247, rfl⟩
abbrev main_c_32 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_c_33 : Ref sig .tc := ⟨.hbm, 252, rfl⟩
abbrev main_v208 : Ref sig .tc := ⟨.hbm, 253, rfl⟩
abbrev main_v209 : Ref sig .tc := ⟨.hbm, 254, rfl⟩
abbrev main_c_34 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_c_35 : Ref sig .tc := ⟨.hbm, 259, rfl⟩
abbrev main_v213 : Ref sig .tc := ⟨.hbm, 260, rfl⟩
abbrev main_v214 : Ref sig .tc := ⟨.hbm, 261, rfl⟩
abbrev main_c_36 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_c_37 : Ref sig .tc := ⟨.hbm, 273, rfl⟩
abbrev main_v225 : Ref sig .tc := ⟨.hbm, 274, rfl⟩
abbrev main_v226 : Ref sig .tc := ⟨.hbm, 275, rfl⟩
abbrev main_c_38 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_c_39 : Ref sig .tc := ⟨.hbm, 280, rfl⟩
abbrev main_v230 : Ref sig .tc := ⟨.hbm, 281, rfl⟩
abbrev main_v231 : Ref sig .tc := ⟨.hbm, 282, rfl⟩
abbrev main_c_40 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_c_41 : Ref sig .tc := ⟨.hbm, 287, rfl⟩
abbrev main_v235 : Ref sig .tc := ⟨.hbm, 288, rfl⟩
abbrev main_v236 : Ref sig .tc := ⟨.hbm, 289, rfl⟩
abbrev main_c_42 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_c_43 : Ref sig .tc := ⟨.hbm, 301, rfl⟩
abbrev main_v247 : Ref sig .tc := ⟨.hbm, 302, rfl⟩
abbrev main_v248 : Ref sig .tc := ⟨.hbm, 303, rfl⟩
abbrev main_c_44 : Ref sig .tc := ⟨.hbm, 304, rfl⟩
abbrev main_v249 : Ref sig .tc := ⟨.hbm, 305, rfl⟩
abbrev main_v250 : Ref sig .tc := ⟨.hbm, 306, rfl⟩
abbrev main_c_45 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_c_46 : Ref sig .tc := ⟨.hbm, 311, rfl⟩
abbrev main_v254 : Ref sig .tc := ⟨.hbm, 312, rfl⟩
abbrev main_v255 : Ref sig .tc := ⟨.hbm, 313, rfl⟩
abbrev main_c_47 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_c_48 : Ref sig .tc := ⟨.hbm, 318, rfl⟩
abbrev main_v259 : Ref sig .tc := ⟨.hbm, 319, rfl⟩
abbrev main_v260 : Ref sig .tc := ⟨.hbm, 320, rfl⟩
abbrev main_c_49 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_cst_50 : Ref sig .tc := ⟨.hbm, 334, rfl⟩
abbrev main_v273 : Ref sig .tc := ⟨.hbm, 335, rfl⟩
abbrev main_v274 : Ref sig .tc := ⟨.hbm, 336, rfl⟩
abbrev main_cst_51 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_cst_52 : Ref sig .tc := ⟨.hbm, 341, rfl⟩
abbrev main_v278 : Ref sig .tc := ⟨.hbm, 342, rfl⟩
abbrev main_v279 : Ref sig .tc := ⟨.hbm, 343, rfl⟩
abbrev main_cst_53 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_cst_54 : Ref sig .tc := ⟨.hbm, 349, rfl⟩
abbrev main_v284 : Ref sig .tc := ⟨.hbm, 350, rfl⟩
abbrev main_v285 : Ref sig .tc := ⟨.hbm, 351, rfl⟩
abbrev main_cst_55 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_cst_56 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_cst_57 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩

abbrev nD : Nat := 1
abbrev τ : Topo := Topo.v7x

variable {F : FTy → Type} [FloatOps F]
-- ==== Proof.Scalar.lean ====
module

public import proofs.«01_k».proof.Proof.Gen.KernelIdeal.Value

@[expose] public section

noncomputable section

/-!
The scalar mathematics of the slopes over the extended reals: the divided differences of a curve's values and its
slopes at the knots.
-/

namespace Cert.Spline
open Idealize.ShloMosaic

/-- The small number both programs add to a divisor. -/
def eps : EReal := Ideal.ofBits .f32 0x2B8CBCCC#32

/-- Zero, as the literal both programs hold. -/
def zer : EReal := Ideal.ofBits .f32 0x00000000#32

/-- Three, as the literal both programs hold. -/
def thr : EReal := Ideal.ofBits .f32 0x40400000#32

/-- The grid's step. -/
def step : EReal := ((1 / 15 : ℝ) : EReal)

/-- Three of the grid's steps. -/
def step3 : EReal := ((1 / 5 : ℝ) : EReal)

/-- Six of the grid's steps. -/
def step6 : EReal := ((2 / 5 : ℝ) : EReal)

/-- Two of the grid's steps and the small number. -/
def step2e : EReal := ((4611686018461975549 / 34587645138205409280 : ℝ) : EReal)

/-- The divided difference over one interval. -/
def delta (h a b : EReal) : EReal := Ideal.div (b - a) (h + eps)

/-- The slope at an inner knot: a weighted harmonic mean of its two divided differences, or zero where they do not
have one sign. -/
def mid (w1 w2 w a b : EReal) : EReal :=
  Scalar.select (Ideal.cmp .ogt (a * b) zer)
    (Ideal.div w (Ideal.div w1 (a + eps) + Ideal.div w2 (b + eps) + eps)) zer

/-- An end slope before its two limits: the three-point formula. -/
def endRaw (w h e a b : EReal) : EReal := Ideal.div (w * a - h * b) e

/-- The first limit of an end slope: zero where its sign is not the first difference's. -/
def endPos (s a : EReal) : EReal := Scalar.select (Ideal.cmp .ole (s * a) zer) zer s

/-- The second limit of an end slope: three times the first difference, where the differences change sign and the
slope is the larger. -/
def endCap (s a b : EReal) : EReal :=
  Scalar.select (Scalar.andi (Ideal.cmp .olt (a * b) zer) (Ideal.cmp .ogt (max s (-s)) (thr * max a (-a))))
    (thr * a) s

/-- The slope at an end of the grid. -/
def endSlope (w h e a b : EReal) : EReal := endCap (endPos (endRaw w h e a b) a) a b

/-- The divided difference over interval `k` of the values `c`. -/
def diff (c : ℕ → EReal) (k : ℕ) : EReal := delta step (c k) (c (k + 1))

/-- The slope at knot `k` of the values `c` on the grid of sixteen knots. -/
def slope (c : ℕ → EReal) (k : ℕ) : EReal :=
  if k = 0 then endSlope step3 step step2e
    (diff c 0) (diff c 1)
  else if k = 15 then endSlope step3 step step2e
    (diff c 14) (diff c 13)
  else mid step3 step3 step6 (diff c (k - 1)) (diff c k)

end Cert.Spline
end
-- ==== Proof.KScratch.lean ====
module

public import Idealize.ShloMosaic.Lib.ValueLayout
public import proofs.«01_k».proof.Proof.Scalar

@[expose] public section

noncomputable section

/-! What the kernel's scratch holds: under each knot the coefficients, then the slopes. -/

namespace Cert.Spline
open Cert.KernelIdeal Cert.KernelIdeal.Gen Idealize.ShloMosaic Idealize.ShloMosaic.TcCoe Idealize.SL.Sem
open Idealize.ShloMosaic.ValueIdx

/-- A coefficient block lies in the stack of sixteen. -/
theorem inb_row (k : Fin 16) (a : Fin 3) : (![k.val, 0, 0] : Fin 3 → ℕ) a + S1x128x128.size a ≤ S16x128x128.size a := by
  have := k.isLt
  match a with
  | ⟨0, _⟩ => show k.val + 1 ≤ 16; omega
  | ⟨1, _⟩ => show 0 + 128 ≤ 128; omega
  | ⟨2, _⟩ => show 0 + 128 ≤ 128; omega

/-- The coefficients at knot `k`, as the kernel loads them. -/
def row (X : Vec Ideal S16x128x128 .bf16) (k : Fin 16) : FVec Ideal S128x128 .bf16 :=
  shapeCast S128x128 (View.ld (S := S16x128x128) (e' := .bf16) (Val := Elt Ideal) X
    (Rect.unit (s := S16x128x128) ![k.val, 0, 0] S1x128x128.size (inb_row k))) shapeCasts_S1x128x128_S128x128

/-- An element of the coefficients at knot `k`. -/
theorem row_apply (X : Vec Ideal S16x128x128 .bf16) (k : Fin 16) (x : S128x128.Idx) :
    row X k x = X (ix3 k (x 0) (x 1)) := by
  obtain ⟨i, o, rfl⟩ : ∃ i o, x = ix2 i o := ⟨x 0, x 1, eq_ix2 x⟩
  unfold row
  rw [shapeCast_1ab_ab_apply]
  show X _ = X _
  congr 1
  funext a
  match a with
  | ⟨0, _⟩ => exact Fin.ext (by show k.val + 1 * 0 = k.val; omega)
  | ⟨1, _⟩ => exact Fin.ext (by show 0 + 1 * i.val = i.val; omega)
  | ⟨2, _⟩ => exact Fin.ext (by show 0 + 1 * o.val = o.val; omega)

/-- The coefficients of one edge (input `i`, output `o`), knot by knot, in the kernel's layout. -/
def coef (X : Vec Ideal S16x128x128 .bf16) (i o : Fin 128) (k : ℕ) : EReal := X (ix3 (Fin.ofNat 16 k) i o)

/-- The kernel's scratch: row `256 k + i` holds the coefficients at knot `k`, row `256 k + 128 + i` the slopes there. -/
def scratch (X : Vec Ideal S16x128x128 .bf16) : Vec Ideal S4096x128 .bf16 := fun y =>
  if (y 0).val % 256 < 128 then coef X (Fin.ofNat 128 ((y 0).val % 128)) (y 1) ((y 0).val / 256)
  else slope (coef X (Fin.ofNat 128 ((y 0).val % 128)) (y 1)) ((y 0).val / 256)

/-- Two rows of blocks of the scratch fit where the scratch does. -/
theorem inb_block (p : Fin 32) (a : Fin 2) : (![128 * p.val, 0] : Fin 2 → ℕ) a + S128x128.size a ≤ S4096x128.size a := by
  have := p.isLt
  match a with
  | ⟨0, _⟩ => show 128 * p.val + 128 ≤ 4096; omega
  | ⟨1, _⟩ => show 0 + 128 ≤ 128; omega

/-- What block `p` of the scratch holds: coefficients at an even `p`, slopes at an odd one, both at knot `p / 2`. -/
def block (X : Vec Ideal S16x128x128 .bf16) (p : ℕ) : FVec Ideal S128x128 .bf16 := fun x =>
  if p % 2 = 0 then row X (Fin.ofNat 16 (p / 2)) x else slope (fun k => row X (Fin.ofNat 16 k) x) (p / 2)

/-- The kernel's stores into its scratch, the last one first. -/
def stores (X : Vec Ideal S16x128x128 .bf16) : List (View.Piece (Elt Ideal) S4096x128 .bf16) :=
  List.map (fun n : Fin 32 => ⟨Rect.unit (s := S4096x128) ![128 * n.val, 0] S128x128.size (inb_block n), block X n.val⟩)
    [31, 30, 29, 28, 27, 26, 25, 24, 23, 22, 21, 20, 19, 18, 17, 16, 15, 14, 13, 12, 11, 10, 9, 8, 7, 6, 5, 4, 3, 2, 1, 0]

/-- One store agrees with the scratch wherever it writes. -/
theorem scratch_block (X : Vec Ideal S16x128x128 .bf16) (p : Fin 32) (x : S128x128.Idx) :
    block X p.val x = scratch X ((Rect.unit (s := S4096x128) ![128 * p.val, 0] S128x128.size (inb_block p)).emb x) := by
  obtain ⟨i, o, rfl⟩ : ∃ i o, x = ix2 i o := ⟨x 0, x 1, eq_ix2 x⟩
  have hi := i.isLt
  have h0 : ((Rect.unit (s := S4096x128) ![128 * p.val, 0] S128x128.size (inb_block p)).emb (ix2 i o) 0).val = 128 * p.val + i.val := by
    show 128 * p.val + 1 * i.val = _; omega
  have h1 : (Rect.unit (s := S4096x128) ![128 * p.val, 0] S128x128.size (inb_block p)).emb (ix2 i o) 1 = o :=
    Fin.ext (by show 0 + 1 * o.val = _; omega)
  have hm : Fin.ofNat 128 ((128 * p.val + i.val) % 128) = i := Fin.ext (by show (128 * p.val + i.val) % 128 % 128 = _; omega)
  have hd : (128 * p.val + i.val) / 256 = p.val / 2 := by omega
  have hc : ((128 * p.val + i.val) % 256 < 128) = (p.val % 2 = 0) := by rw [eq_iff_iff]; omega
  unfold scratch block
  rw [h0, h1, hm, hd]
  simp only [hc, row_apply]
  rfl

/-- The stores leave the scratch as described. -/
theorem canon_stores (X : Vec Ideal S16x128x128 .bf16) (L : List (View.Piece (Elt Ideal) S4096x128 .bf16)) (hL : L = stores X)
    (hc : ∀ y, ∃ p ∈ L, y ∈ p.1.set) : View.canon L = scratch X := by
  funext y
  refine View.canon_apply_of_pieces (scratch X) L ?_ y (hc y)
  subst hL
  intro p hp
  obtain ⟨n, _, rfl⟩ := List.mem_map.mp hp
  exact fun x => scratch_block X n x

/-- The value of an integer the kernel compares an interval with, as its literal. -/
def word (j : ℕ) : BitVec 16 :=
  ![0x0000#16, 0x3F80#16, 0x4000#16, 0x4040#16, 0x4080#16, 0x40A0#16, 0x40C0#16, 0x40E0#16, 0x4100#16, 0x4110#16, 0x4120#16,
    0x4130#16, 0x4140#16, 0x4150#16, 0x4160#16, 0x4170#16] (Fin.ofNat 16 j)

/-- One where the interval is `j`, zero elsewhere. -/
def hot (v : EReal) (j : ℕ) : EReal :=
  Scalar.select (Ideal.cmp .oeq v (Ideal.ofBits .bf16 (word j))) (Ideal.ofBits .bf16 0x3F80#16) (Ideal.ofBits .bf16 0x0000#16)

/-- The weight on knot `j`: `a` from the interval it begins, `b` from the interval it ends. -/
def wgt (v a b : EReal) (j : ℕ) : EReal :=
  if j = 0 then hot v 0 * a else if j = 15 then hot v 14 * b else hot v j * a + hot v (j - 1) * b

/-- Block `p` of the weights: for the coefficients at an even `p`, for the slopes at an odd one. -/
def wblock (V : Vec Ideal S2048x128 .f32) (p : Fin 32) : FVec Ideal S2048x128 .bf16 := fun x =>
  if p.val % 2 = 0 then wgt (k0_pay111 V x) (k0_pay114 V x) (k0_pay116 V x) (p.val / 2)
  else wgt (k0_pay111 V x) (k0_pay115 V x) (k0_pay117 V x) (p.val / 2)

/-- The kernel's weights: column `128 p + i` is column `i` of block `p`. -/
def weights (V : Vec Ideal S2048x128 .f32) : FVec Ideal S2048x4096 .bf16 := fun y =>
  wblock V (Fin.ofNat 32 ((y 1).val / 128)) (ix2 (y 0) (Fin.ofNat 128 ((y 1).val % 128)))

/-- The concatenated blocks are the weights. -/
theorem concatenate_weights (V : Vec Ideal S2048x128 .f32) (L : List ((s : Shape) × (s.Idx → EReal)))
    (hL : L = List.map (fun n : Fin 32 => (⟨S2048x128, wblock V n⟩ : (s : Shape) × (s.Idx → EReal)))
      [0, 1, 2, 3, 4, 5, 6, 7, 8, 9, 10, 11, 12, 13, 14, 15, 16, 17, 18, 19, 20, 21, 22, 23, 24, 25, 26, 27, 28, 29, 30, 31])
    (h : Shape.Concatenates (L.map (·.1)) S2048x4096 1) :
    concatenate S2048x4096 1 L h = weights V := by
  obtain rfl : L = List.ofFn fun n : Fin 32 => (⟨S2048x128, wblock V n⟩ : (s : Shape) × (s.Idx → EReal)) := hL.trans rfl
  funext y
  have hy : (y 1).val < 4096 := (y 1).isLt
  refine concatenate_ofFn_apply (1 : Fin S2048x4096.rank) (wblock V) h rfl 128 rfl y _ ?_ _ ?_ ?_
  · show (y 1).val / 128 = (y 1).val / 128 % 32; omega
  · show (y 1).val % 128 % 128 = (y 1).val % 128; omega
  · intro b hb
    match b with
    | ⟨0, _⟩ => rfl
    | ⟨1, _⟩ => exact absurd rfl hb

variable (m : (ℓ : Loc nD τ sig) → Buf (Elt Ideal) ℓ)

set_option maxRecDepth 16384 in
set_option maxHeartbeats 2000000 in
/-- What the kernel's one step leaves in its output block: the bias plus the weights times the scratch. -/
theorem outs_eq (c : Dev nD) (t : Fin cfg0.N) :
    outsAt0 m c t = k0_pay9 (weights (iblk m c 0 t)) (iblk m c 2 t) (scratch (iblk m c 1 t)) := by
  unfold outsAt0 out0_A_3
  rw [View.read_writes_eq_canon _ _ _ (cover0_A_3 c _ _ _ _ _ _ _ _ _ _ _ _ _ _ _)]
  unfold kernelRun0_A; dsimp only
  sl_unfold_words
  simp only [View.readAt_eq_ld, (hs0_0 t).read_unread, (hs0_1 t).read_unread, (hs0_2 t).read_unread]
  rw [View.canon_unit_zero (by decide), View.readCov_eq_canon_ld _ _ _ (View.cover_of_tiledL _ ![128,128] (by sl_kernel_rfl)),
    concatenate_weights (iblk m c 0 t) _ ?_,
    canon_stores (iblk m c 1 t) _ ?_ (View.cover_of_tiledL _ ![128,128] (by sl_kernel_rfl)),
    View.ld_unit_zero (by decide), View.ld_unit_zero (by decide)]
  · simp only [k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92,
      k0_pay93, k0_pay94, k0_pay95, k0_pay96, k0_pay97, k0_pay98, k0_pay99, k0_pay100, k0_pay101, k0_pay102,
      k0_pay103, k0_pay104, k0_pay105, k0_pay106, k0_pay107,
      shapeCast_self, stores, List.map]
    repeat' refine congrArg₂ List.cons (congrArg (Sigma.mk _) (funext fun x => ?_)) ?_
    all_goals simp [block, slope, diff]
    all_goals rfl
  · simp only [View.ld_unit_zero (S := S2048x128) (off := ![0,0]) (by decide), Memref.IsWhole.read_unread, List.map]
    repeat' refine congrArg₂ List.cons (congrArg (Sigma.mk S2048x128) (funext fun x => ?_)) ?_
    all_goals rfl

end Cert.Spline
end
-- ==== Proof.Numbers.lean ====
module

public import proofs.«01_k».proof.Proof.Scalar

@[expose] public section

noncomputable section

/-!
The literals of the two programs as real numbers, and the arithmetic of the grid's step.
-/

namespace Cert.Spline
open Idealize.ShloMosaic

/-- The small number is this dyadic fraction. -/
theorem eps_eq : eps = ((9223372 / 9223372036854775808 : ℝ) : EReal) := by
  simp [eps, Ideal.ofBits, Ideal.ieee, -EReal.coe_mul]; norm_num

/-- The literal zero is zero. -/
theorem zer_eq : zer = 0 := by
  simp [zer, Ideal.ofBits, Ideal.ieee, -EReal.coe_mul]

/-- The literal two is two. -/
theorem lit2 : Ideal.ofBits .f32 0x40000000#32 = ((2 : ℝ) : EReal) := by
  simp [Ideal.ofBits, Ideal.ieee, -EReal.coe_mul]; norm_num

/-- The literal one is one. -/
theorem lit1 : Ideal.ofBits .f32 0x3F800000#32 = ((1 : ℝ) : EReal) := by
  simp [Ideal.ofBits, Ideal.ieee, -EReal.coe_mul]; norm_num

/-- The literal three is three. -/
theorem lit3 : Ideal.ofBits .f32 0x40400000#32 = ((3 : ℝ) : EReal) := by
  simp [Ideal.ofBits, Ideal.ieee, -EReal.coe_mul]; norm_num

/-- The literal minus two is minus two. -/
theorem litm2 : Ideal.ofBits .f32 0xC0000000#32 = ((-2 : ℝ) : EReal) := by
  simp [Ideal.ofBits, Ideal.ieee, -EReal.coe_mul]; norm_num

/-- The literal fifteen is fifteen. -/
theorem lit15 : Ideal.ofBits .f32 0x41700000#32 = ((15 : ℝ) : EReal) := by
  simp [Ideal.ofBits, Ideal.ieee, -EReal.coe_mul]; norm_num

/-- Twice the step and the step are three steps. -/
theorem two_step_add : ((2 : ℝ) : EReal) * step + step = step3 := by
  rw [step, step3, ← EReal.coe_mul, ← EReal.coe_add]; congr 1; norm_num

/-- The step and twice the step are three steps. -/
theorem step_add_two : step + ((2 : ℝ) : EReal) * step = step3 := by
  rw [step, step3, ← EReal.coe_mul, ← EReal.coe_add]; congr 1; norm_num

/-- Twice three steps are six. -/
theorem step3_add : step3 + step3 = step6 := by
  rw [step3, step6, ← EReal.coe_add]; congr 1; norm_num

/-- Two steps and the small number, as one rational. -/
theorem step_add_step : step + step + eps = step2e := by
  rw [step, step2e, eps_eq, ← EReal.coe_add, ← EReal.coe_add]; congr 1; norm_num

end Cert.Spline
end
-- ==== Proof.Cell.lean ====
module

public import proofs.«01_k».proof.Proof.Numbers

@[expose] public section

noncomputable section

/-!
The interval of a real input on the grid, its place inside the interval, and the cubic there.
-/

namespace Cert.Spline
open Idealize.ShloMosaic

/-- The inverse of the step and the small number, as the kernel holds it. -/
def inv : EReal := ((34587645138205409280 / 2305843009248281597 : ℝ) : EReal)

/-- An input in steps of the grid. -/
def pos (r : ℝ) : ℝ := r * (34587645138205409280 / 2305843009248281597)

/-- The interval an input lies in. -/
def cell (r : ℝ) : ℕ := ⌊pos r⌋₊

/-- An input's place inside its interval. -/
def frac (r : ℝ) : ℝ := pos r - (cell r : ℝ)

/-- A nonnegative input lies at a nonnegative position. -/
theorem pos_nonneg {r : ℝ} (h : 0 ≤ r) : 0 ≤ pos r := mul_nonneg h (by norm_num)

/-- An input of the grid lies in one of its fifteen intervals. -/
theorem cell_le {r : ℝ} (h0 : 0 ≤ r) (h1 : r ≤ 1) : cell r ≤ 14 := by
  refine Nat.lt_succ_iff.mp ((Nat.floor_lt (pos_nonneg h0)).2 ?_)
  refine lt_of_le_of_lt (mul_le_mul_of_nonneg_right h1 (by norm_num)) ?_
  norm_num

/-- The integer below a nonnegative input's position is its interval. -/
theorem floor_pos {r : ℝ} (h : 0 ≤ r) : ⌊pos r⌋ = (cell r : ℤ) :=
  (Int.natCast_floor_eq_floor (pos_nonneg h)).symm

/-- The position of an input, as the kernel computes it. -/
theorem kernel_pos (r : ℝ) : ((r : EReal) - zer) * inv = (pos r : EReal) := by
  rw [zer_eq, sub_zero, inv, ← EReal.coe_mul]; rfl

/-- The position of an input, as the reference computes it. -/
theorem ref_pos (r : ℝ) : Ideal.div ((r : EReal) - 0) (step + eps) = (pos r : EReal) := by
  rw [sub_zero, step, eps_eq, ← EReal.coe_add, Ideal.div_coe (by norm_num), ← EReal.coe_mul]
  refine congrArg _ ?_
  unfold pos
  norm_num

/-- The place in the interval is the position less the interval. -/
theorem pos_sub_cell (r : ℝ) : (pos r : EReal) - ((cell r : ℝ) : EReal) = (frac r : EReal) := by
  rw [← EReal.coe_sub]; rfl

/-- The value's weight at the interval's left knot. -/
def h00 (t : EReal) : EReal := ((2 : ℝ) : EReal) * (t * t * t) - ((3 : ℝ) : EReal) * (t * t) + ((1 : ℝ) : EReal)

/-- The slope's weight at the interval's left knot. -/
def h10 (t : EReal) : EReal := (t * t * t - ((2 : ℝ) : EReal) * (t * t) + t) * step

/-- The value's weight at the interval's right knot. -/
def h01 (t : EReal) : EReal := ((-2 : ℝ) : EReal) * (t * t * t) + ((3 : ℝ) : EReal) * (t * t)

/-- The slope's weight at the interval's right knot. -/
def h11 (t : EReal) : EReal := (t * t * t - t * t) * step

/-- The cubic of interval `n` at the place `t`, of the values `c` and the slopes `m`. -/
def cubic (c m : ℕ → EReal) (n : ℕ) (t : EReal) : EReal :=
  h00 t * c n + h10 t * m n + h01 t * c (n + 1) + h11 t * m (n + 1)

/-- A curve at a real input of the grid. -/
def spline (c : ℕ → EReal) (r : ℝ) : EReal := cubic c (slope c) (cell r) (frac r)

end Cert.Spline
end
-- ==== Proof.KSum.lean ====
module

public import proofs.«01_k».proof.Proof.KScratch
public import proofs.«01_k».proof.Proof.Cell
public import Idealize.ShloMosaic.Lib.MatmulPlain

@[expose] public section

noncomputable section

/-!
The kernel's product at an output: the one-hot weights pick each input's interval out of the scratch, so that the sum
over the 4096 columns is the sum over the inputs of each curve at its input.
-/

namespace Cert.Spline
open Cert.KernelIdeal Cert.KernelIdeal.Gen Idealize.ShloMosaic Idealize.ShloMosaic.ValueIdx

/-- The kernel's sixteen literals are the numbers of the knots. -/
theorem word_eq {j : ℕ} (h : j ≤ 15) : Ideal.ofBits .bf16 (word j) = ((j : ℝ) : EReal) := by
  interval_cases j <;> simp [word, Fin.ofNat, Ideal.ofBits, Ideal.ieee, -EReal.coe_mul] <;> norm_num

/-- The one-hot weight is one at the input's interval and zero elsewhere. -/
theorem hot_eq (n : ℕ) {j : ℕ} (h : j ≤ 15) : hot ((n : ℝ) : EReal) j = if j = n then 1 else 0 := by
  have e1 : Ideal.ofBits .bf16 0x3F80#16 = 1 := by
    simp [Ideal.ofBits, Ideal.ieee, -EReal.coe_mul]; norm_num
  have e0 : Ideal.ofBits .bf16 0x0000#16 = 0 := by
    simp [Ideal.ofBits, Ideal.ieee, -EReal.coe_mul]
  unfold hot
  rw [word_eq h, e1, e0]
  show Scalar.select (BitVec.ofBool (decide (((n : ℝ) : EReal) = ((j : ℝ) : EReal)))) 1 0 = _
  by_cases hj : j = n
  · subst hj; simp [Scalar.select]
  · have : ((n : ℝ) : EReal) ≠ ((j : ℝ) : EReal) := fun e => hj (by exact_mod_cast e.symm)
    rw [decide_eq_false this, if_neg hj]; rfl

/-- A weighted value at one knot: the left weight's at the interval, the right weight's at the next. -/
theorem wgt_mul {n : ℕ} (hn : n ≤ 14) (a b : EReal) (f : ℕ → EReal) {j : ℕ} (h : j ≤ 15) :
    wgt ((n : ℝ) : EReal) a b j * f j
      = (if j = n then a * f n else 0) + (if j = n + 1 then b * f (n + 1) else 0) := by
  unfold wgt
  rw [hot_eq n (by omega : 0 ≤ 15), hot_eq n (by omega : 14 ≤ 15), hot_eq n h, hot_eq n (by omega : j - 1 ≤ 15)]
  by_cases h0 : j = 0
  · subst h0
    by_cases e : 0 = n
    · subst e; simp
    · simp [e]
  · by_cases h15 : j = 15
    · subst h15
      by_cases e : 14 = n
      · subst e; simp
      · have e1 : ¬(15 = n) := by omega
        have e2 : ¬(15 = n + 1) := by omega
        simp [e, e1, e2]
    · by_cases e : j = n
      · subst e
        have e1 : ¬(j - 1 = j) := by omega
        simp [h0, h15, e1]
      · by_cases e' : j = n + 1
        · subst e'
          have : n ≠ 14 := by omega
          simp [this]
        · have e1 : ¬(j - 1 = n) := by omega
          simp [h0, h15, e, e', e1]

/-- The weighted values over the knots add up to the interval's two. -/
theorem wgt_sum {n : ℕ} (hn : n ≤ 14) (a b : EReal) (f : ℕ → EReal) :
    ∑ k : Fin 16, wgt ((n : ℝ) : EReal) a b k.val * f k.val = a * f n + b * f (n + 1) := by
  rw [Finset.sum_congr rfl fun k _ => wgt_mul hn a b f (Nat.lt_succ_iff.mp k.isLt), Finset.sum_add_distrib]
  refine congrArg₂ _ ?_ ?_
  · rw [Finset.sum_eq_single (⟨n, by omega⟩ : Fin 16)]
    · simp
    · intro k _ hk; exact if_neg fun e => hk (Fin.ext e)
    · simp
  · rw [Finset.sum_eq_single (⟨n + 1, by omega⟩ : Fin 16)]
    · simp
    · intro k _ hk; exact if_neg fun e => hk (Fin.ext e)
    · simp

/-- A sum over a product of extents, by blocks. -/
theorem sum_blocks (p q : ℕ) (f : ℕ → EReal) :
    ∑ r : Fin (p * q), f r.val = ∑ a : Fin p, ∑ b : Fin q, f (b.val + q * a.val) := by
  rw [← finProdFinEquiv.sum_comp, Fintype.sum_prod_type]
  rfl

/-- The sum over the scratch's rows, by input and knot: row `256 k + i` with row `256 k + 128 + i`. -/
theorem sum_rows (f : ℕ → EReal) :
    ∑ r : Fin 4096, f r.val
      = ∑ i : Fin 128, ∑ k : Fin 16, (f (i.val + 256 * k.val) + f (i.val + 128 + 256 * k.val)) := by
  rw [show ∑ r : Fin 4096, f r.val = ∑ r : Fin (16 * 256), f r.val from rfl, sum_blocks 16 256, Finset.sum_comm]
  rw [show (∑ y : Fin 256, ∑ x : Fin 16, f (y.val + 256 * x.val))
      = ∑ y : Fin (2 * 128), ∑ x : Fin 16, f (y.val + 256 * x.val) from rfl,
    sum_blocks 2 128 (fun y => ∑ x : Fin 16, f (y + 256 * x.val)), Fin.sum_univ_two, ← Finset.sum_add_distrib]
  refine Finset.sum_congr rfl fun i _ => ?_
  rw [← Finset.sum_add_distrib]
  rfl

/-- An even block of the weights is the coefficients'. -/
theorem wblock_even (V : Vec Ideal S2048x128 .f32) {k : ℕ} (hk : k < 16) (y : S2048x128.Idx) :
    wblock V (Fin.ofNat 32 (2 * k)) y = wgt (k0_pay111 V y) (k0_pay114 V y) (k0_pay116 V y) k := by
  unfold wblock
  have e : (Fin.ofNat 32 (2 * k)).val = 2 * k := Nat.mod_eq_of_lt (by omega)
  rw [e, if_pos (by omega), show 2 * k / 2 = k by omega]

/-- An odd block of the weights is the slopes'. -/
theorem wblock_odd (V : Vec Ideal S2048x128 .f32) {k : ℕ} (hk : k < 16) (y : S2048x128.Idx) :
    wblock V (Fin.ofNat 32 (2 * k + 1)) y = wgt (k0_pay111 V y) (k0_pay115 V y) (k0_pay117 V y) k := by
  unfold wblock
  have e : (Fin.ofNat 32 (2 * k + 1)).val = 2 * k + 1 := Nat.mod_eq_of_lt (by omega)
  rw [e, if_neg (by omega), show (2 * k + 1) / 2 = k by omega]

variable {V : Vec Ideal S2048x128 .f32} {j : S2048x128.Idx} {r : ℝ}
  (hV : V j = (r : EReal)) (h0 : 0 ≤ r) (h1 : r ≤ 1)
include hV

/-- The kernel's position of an input. -/
theorem k_pos : k0_pay108 V j = (pos r : EReal) := by
  rw [← kernel_pos, ← hV]; rfl

include h0 h1

/-- The kernel's interval of an input. -/
theorem k_cell : k0_pay109 V j = ((cell r : ℝ) : EReal) := by
  have hle : ((cell r : ℝ)) ≤ 14 := by exact_mod_cast cell_le h0 h1
  have e14 : Ideal.ofBits .f32 0x41600000#32 = ((14 : ℝ) : EReal) := by
    simp [Ideal.ofBits, Ideal.ieee, -EReal.coe_mul]; norm_num
  show min (Ideal.ofBits .f32 0x41600000#32) (max zer (Ideal.liftRound Int.floor (k0_pay108 V j))) = _
  rw [k_pos hV, zer_eq, e14, Ideal.liftRound_coe, floor_pos h0, Int.cast_natCast,
    max_eq_right (EReal.coe_nonneg.2 (Nat.cast_nonneg _)), min_eq_right (EReal.coe_le_coe_iff.2 hle)]

/-- The kernel's place of an input in its interval. -/
theorem k_frac : k0_pay110 V j = (frac r : EReal) := by
  show k0_pay108 V j - k0_pay109 V j = _
  rw [k_pos hV, k_cell hV h0 h1]
  exact pos_sub_cell r

omit hV h0 h1 in
/-- The literal two of the narrow format is two. -/
theorem nlit2 : Ideal.ofBits .bf16 0x4000#16 = ((2 : ℝ) : EReal) := by
  simp [Ideal.ofBits, Ideal.ieee, -EReal.coe_mul]; norm_num

omit hV h0 h1 in
/-- The literal three of the narrow format is three. -/
theorem nlit3 : Ideal.ofBits .bf16 0x4040#16 = ((3 : ℝ) : EReal) := by
  simp [Ideal.ofBits, Ideal.ieee, -EReal.coe_mul]; norm_num

omit hV h0 h1 in
/-- The literal one of the narrow format is one. -/
theorem nlit1 : Ideal.ofBits .bf16 0x3F80#16 = ((1 : ℝ) : EReal) := by
  simp [Ideal.ofBits, Ideal.ieee, -EReal.coe_mul]; norm_num

omit hV h0 h1 in
/-- The literal minus two of the narrow format is minus two. -/
theorem nlitm2 : Ideal.ofBits .bf16 0xC000#16 = ((-2 : ℝ) : EReal) := by
  simp [Ideal.ofBits, Ideal.ieee, -EReal.coe_mul]; norm_num

/-- The kernel's four weights of an input. -/
theorem k_weights : k0_pay114 V j = h00 (frac r) ∧ k0_pay115 V j = h10 (frac r) ∧ k0_pay116 V j = h01 (frac r)
    ∧ k0_pay117 V j = h11 (frac r) := by
  have ht := k_frac hV h0 h1
  have ht2 : k0_pay112 V j = (frac r : EReal) * (frac r : EReal) := by rw [← ht]; rfl
  have ht3 : k0_pay113 V j = (frac r : EReal) * (frac r : EReal) * (frac r : EReal) := by rw [← ht]; rfl
  refine ⟨?_, ?_, ?_, ?_⟩
  · rw [h00, ← ht3, ← ht2, ← nlit2, ← nlit3, ← nlit1]; rfl
  · rw [h10, ← ht3, ← ht2, ← ht, ← nlit2]; rfl
  · rw [h01, ← ht3, ← ht2, ← nlitm2, ← nlit3]; rfl
  · rw [h11, ← ht3, ← ht2]; rfl

omit hV h0 h1 in
/-- The kernel at an output: its bias, and the sum of its curves. -/
theorem kernel_value (X : Vec Ideal S16x128x128 .bf16) (B : Vec Ideal S1x128 .f32) (x : S2048x128.Idx → ℝ)
    (hX : ∀ i, V i = (x i : EReal)) (hx0 : ∀ i, 0 ≤ x i) (hx1 : ∀ i, x i ≤ 1) (b : Fin 2048) (o : Fin 128) :
    k0_pay9 (weights V) B (scratch X) (ix2 b o)
      = B (ix2 0 o) + ∑ i : Fin 128, spline (coef X i o) (x (ix2 b i)) := by
  have hb : broadcastTo S2048x128 (shapeCast S1x128 B shapeCasts_S1x128_S1x128) broadcasts_S1x128_S2048x128 (ix2 b o)
      = B (ix2 0 o) := by
    rw [shapeCast_self]
    refine congrArg B (funext fun a => ?_)
    match a with
    | ⟨0, _⟩ => rfl
    | ⟨1, _⟩ => rfl
  have hm : matmul (φ₁ := .bf16) (φ₂ := .bf16) dot_S2048x4096_S4096x128_S2048x128_1_0_0_1_n_n none (weights V)
      (scratch X) (constant S2048x128 .f32 0x00000000#32) (ix2 b o)
      = zer + ∑ k : Fin 4096, weights V (ix2 b k) * scratch X (ix2 k o) :=
    Ideal.matmul_plain_apply (φ₁ := .bf16) (φ₂ := .bf16) none (weights V) (scratch X) _ b o
  show broadcastTo S2048x128 (shapeCast S1x128 B shapeCasts_S1x128_S1x128) broadcasts_S1x128_S2048x128 (ix2 b o)
    + matmul (φ₁ := .bf16) (φ₂ := .bf16) dot_S2048x4096_S4096x128_S2048x128_1_0_0_1_n_n none (weights V) (scratch X)
      (constant S2048x128 .f32 0x00000000#32) (ix2 b o) = _
  rw [hb, hm, zer_eq, zero_add]
  refine congrArg _ ?_
  refine (sum_rows fun q => wblock V (Fin.ofNat 32 (q / 128)) (ix2 b (Fin.ofNat 128 (q % 128)))
    * (if q % 256 < 128 then coef X (Fin.ofNat 128 (q % 128)) o (q / 256)
        else slope (coef X (Fin.ofNat 128 (q % 128)) o) (q / 256))).trans (Finset.sum_congr rfl fun i _ => ?_)
  have hi := i.isLt
  have ei : Fin.ofNat 128 i.val = i := Fin.ext (Nat.mod_eq_of_lt hi)
  obtain ⟨e00, e10, e01, e11⟩ := k_weights (hX (ix2 b i)) (hx0 _) (hx1 _)
  have ec : k0_pay111 V (ix2 b i) = ((cell (x (ix2 b i)) : ℝ) : EReal) := k_cell (hX (ix2 b i)) (hx0 _) (hx1 _)
  have hk (k : Fin 16) :
      wblock V (Fin.ofNat 32 ((i.val + 256 * k.val) / 128)) (ix2 b (Fin.ofNat 128 ((i.val + 256 * k.val) % 128)))
          * (if (i.val + 256 * k.val) % 256 < 128 then
              coef X (Fin.ofNat 128 ((i.val + 256 * k.val) % 128)) o ((i.val + 256 * k.val) / 256)
            else slope (coef X (Fin.ofNat 128 ((i.val + 256 * k.val) % 128)) o) ((i.val + 256 * k.val) / 256))
        + wblock V (Fin.ofNat 32 ((i.val + 128 + 256 * k.val) / 128))
            (ix2 b (Fin.ofNat 128 ((i.val + 128 + 256 * k.val) % 128)))
          * (if (i.val + 128 + 256 * k.val) % 256 < 128 then
              coef X (Fin.ofNat 128 ((i.val + 128 + 256 * k.val) % 128)) o ((i.val + 128 + 256 * k.val) / 256)
            else slope (coef X (Fin.ofNat 128 ((i.val + 128 + 256 * k.val) % 128)) o) ((i.val + 128 + 256 * k.val) / 256))
      = wgt ((cell (x (ix2 b i)) : ℝ) : EReal) (h00 (frac (x (ix2 b i)))) (h01 (frac (x (ix2 b i)))) k.val
          * coef X i o k.val
        + wgt ((cell (x (ix2 b i)) : ℝ) : EReal) (h10 (frac (x (ix2 b i)))) (h11 (frac (x (ix2 b i)))) k.val
          * slope (coef X i o) k.val := by
    have hkl := k.isLt
    rw [show (i.val + 256 * k.val) / 128 = 2 * k.val by omega, show (i.val + 256 * k.val) % 128 = i.val by omega,
      show (i.val + 256 * k.val) / 256 = k.val by omega, if_pos (show (i.val + 256 * k.val) % 256 < 128 by omega),
      show (i.val + 128 + 256 * k.val) / 128 = 2 * k.val + 1 by omega,
      show (i.val + 128 + 256 * k.val) % 128 = i.val by omega,
      show (i.val + 128 + 256 * k.val) / 256 = k.val by omega,
      if_neg (show ¬(i.val + 128 + 256 * k.val) % 256 < 128 by omega), ei, wblock_even V hkl, wblock_odd V hkl,
      e00, e10, e01, e11, ec]
  rw [Finset.sum_congr rfl fun k _ => hk k, Finset.sum_add_distrib, wgt_sum (cell_le (hx0 _) (hx1 _)),
    wgt_sum (cell_le (hx0 _) (hx1 _)) _ _ (slope (coef X i o)), spline, cubic]
  abel

end Cert.Spline
end
-- ==== Proof.RefSlopes.lean ====
module

public import Idealize.ShloMosaic.Lib.ValueLayout
public import proofs.«01_k».proof.Proof.Numbers
public import proofs.«01_k».proof.Proof.Gen.ReferenceIdeal.Read

@[expose] public section

noncomputable section

/-!
The slopes of the reference at the knots of the even grid, as the scalar slopes of each curve's own values.
-/

namespace Cert.Spline
open Cert.ReferenceIdeal Cert.ReferenceIdeal.Read Idealize.ShloMosaic Idealize.ShloMosaic.ValueIdx

/-- An array of the sixteen knots. -/
abbrev Knots := Vec Ideal S16 .f32

/-- An array of every curve's values at the knots. -/
abbrev Coefs := Vec Ideal S128x128x16 .f32

/-- The knots are the even grid's: knot `k` is `k` fifteenths. -/
def Even (K : Knots) : Prop := ∀ k : S16.Idx, K k = (((k 0).val / 15 : ℝ) : EReal)

/-- The values at the knots of the curve from input `i` to output `o`. -/
def curve (C : Coefs) (o i : Fin 128) (k : ℕ) : EReal := C (ix3 o i (Fin.ofNat 16 k))

/-- A coefficient is its curve's value at its knot. -/
theorem read_curve (C : Coefs) (j : S128x128x16.Idx) {o i : Fin 128} {k : ℕ}
    (h0 : (j 0).val = o.val) (h1 : (j 1).val = i.val) (h2 : (j 2).val = k) : C j = curve C o i k := by
  subst h2
  refine congrArg C (funext fun a => ?_)
  match a with
  | ⟨0, _⟩ => exact Fin.ext h0
  | ⟨1, _⟩ => exact Fin.ext h1
  | ⟨2, _⟩ => exact Fin.ext (Nat.mod_eq_of_lt (j 2).isLt).symm

/-- A re-laid-out array whose elements are all one value has that value everywhere. -/
theorem shapeCast_all {s t : Shape} {α : Type} (x : s.Idx → α) (h : s.ShapeCasts t) (v : α)
    (hx : ∀ j, x j = v) (i : t.Idx) : shapeCast t x h i = v := hx _

variable {K : Knots} (hK : Even K) (C : Coefs)
include hK

/-- The even grid's steps. -/
theorem knot_step (j : S15.Idx) : val_main_v2 (F := Ideal) K j = step := by
  rw [val_main_v2_apply, val_main_v0_apply, val_main_v1_apply, hK, hK]
  show ((_ : ℝ) : EReal) - ((_ : ℝ) : EReal) = _
  rw [← EReal.coe_sub]
  show (((((1 + (j 0).val : ℕ) : ℝ) / 15 - ((j 0).val : ℝ) / 15 : ℝ)) : EReal) = _
  refine congrArg _ ?_
  push_cast; ring

/-- The divided differences. -/
theorem ref_diff (j : S128x128x15.Idx) :
    val_main_v10 (F := Ideal) K C j = diff (curve C (j 0) (j 1)) (j 2).val := by
  have hd : val_main_v9 (F := Ideal) K j = step + eps := by
    rw [val_main_v9_apply, val_main_v8_apply, val_main_v7_apply, knot_step hK, val_main_v6_apply]; rfl
  rw [val_main_v10_apply, hd, val_main_v5_apply, val_main_v3_apply, val_main_v4_apply,
    read_curve C (idx_main_v3 j) (o := j 0) (i := j 1) (k := (j 2).val + 1) rfl rfl (Nat.add_comm 1 _),
    read_curve C (idx_main_v4 j) (o := j 0) (i := j 1) (k := (j 2).val) rfl rfl rfl]
  rfl

/-- The inner slopes. -/
theorem ref_mid (j : S128x128x14.Idx) :
    val_main_v42 (F := Ideal) K C j = slope (curve C (j 0) (j 1)) ((j 2).val + 1) := by
  have hlt : (j 2).val < 14 := (j 2).isLt
  have ha : val_main_v19 (F := Ideal) K C j = diff (curve C (j 0) (j 1)) (j 2).val := by
    rw [val_main_v19_apply, ref_diff hK]; rfl
  have hb : val_main_v20 (F := Ideal) K C j = diff (curve C (j 0) (j 1)) ((j 2).val + 1) := by
    rw [val_main_v20_apply, ref_diff hK, Nat.add_comm (j 2).val 1]; rfl
  have h15 (i) : val_main_v15 (F := Ideal) K i = step3 := by
    rw [val_main_v15_apply, val_main_v14_apply, val_main_v13_apply, val_main_v12_apply, val_main_v11_apply,
      knot_step hK, knot_step hK]
    exact (congrArg (fun a => a * step + step) lit2).trans two_step_add
  have h18 (i) : val_main_v18 (F := Ideal) K i = step3 := by
    rw [val_main_v18_apply, val_main_v17_apply, val_main_v16_apply, val_main_v12_apply, val_main_v11_apply,
      knot_step hK, knot_step hK]
    exact (congrArg (fun a => step + a * step) lit2).trans step_add_two
  have h35 (i) : val_main_v35 (F := Ideal) K i = step6 := by
    rw [val_main_v35_apply, h15, h18]; exact step3_add
  rw [val_main_v42_apply, val_main_v40_apply, val_main_v37_apply, val_main_v34_apply, val_main_v33_apply,
    val_main_v28_apply, val_main_v23_apply, val_main_v21_apply, val_main_v25_apply, val_main_v30_apply,
    val_main_v39_apply, val_main_v38_apply, h35, val_main_v32_apply, val_main_v31_apply, h18,
    val_main_v27_apply, val_main_v26_apply, h15, ha, hb, slope, if_neg (Nat.succ_ne_zero _), if_neg (by omega)]
  rfl

/-- A divided difference is read off its curve, wherever its index is computed from. -/
theorem read_diff (j : S128x128x15.Idx) {o i : Fin 128} {k : ℕ}
    (h0 : (j 0).val = o.val) (h1 : (j 1).val = i.val) (h2 : (j 2).val = k) :
    val_main_v10 (F := Ideal) K C j = diff (curve C o i) k := by
  rw [ref_diff hK, h2, show j 0 = o from Fin.ext h0, show j 1 = i from Fin.ext h1]

omit hK in
/-- The row and the column of a flat position. -/
theorem row_flat (i : S128x128.Idx) : ((i 0).val * 128 + (i 1).val) / 128 = (i 0).val := by
  have : (i 1).val < 128 := (i 1).isLt
  omega

omit hK in
/-- The column of a flat position. -/
theorem col_flat (i : S128x128.Idx) : ((i 0).val * 128 + (i 1).val) / 1 % 128 = (i 1).val := by
  have : (i 1).val < 128 := (i 1).isLt
  omega

/-- The slope at the first knot. -/
theorem ref_first (i : S128x128.Idx) :
    val_main_v94 (F := Ideal) K C i = slope (curve C (i 0) (i 1)) 0 := by
  have hs (s : Shape) (t : Shape) (x : s.Idx → EReal) (h : s.ShapeCasts t) := shapeCast_all x h step
  have h44 (z) : val_main_v44 (F := Ideal) K z = step :=
    hs _ _ _ _ (fun j => by rw [val_main_v43_apply, knot_step hK]) z
  have h47 (z) : val_main_v47 (F := Ideal) K z = step :=
    hs _ _ _ _ (fun j => by rw [val_main_v46_apply, knot_step hK]) z
  have h48 (z) : val_main_v48 (F := Ideal) K z = step3 := by
    rw [val_main_v48_apply, val_main_v45_apply, h44, h47]
    exact (congrArg (fun a => a * step + step) lit2).trans two_step_add
  have h65 (z) : val_main_v65 (F := Ideal) K z = step2e := by
    rw [val_main_v65_apply, val_main_v64_apply, show val_main_v61 (F := Ideal) K z = step from h44 z,
      show val_main_v63 (F := Ideal) K z = step from h47 z]
    exact step_add_step
  have ha : val_main_v50 (F := Ideal) K C i = diff (curve C (i 0) (i 1)) 0 := by
    rw [val_main_v50_apply, val_main_v49_apply]
    exact read_diff hK C _ (row_flat i) (col_flat i) rfl
  have hb : val_main_v56 (F := Ideal) K C i = diff (curve C (i 0) (i 1)) 1 := by
    rw [val_main_v56_apply, val_main_v55_apply]
    exact read_diff hK C _ (row_flat i) (col_flat i) rfl
  have hraw : val_main_v67 (F := Ideal) K C i
      = endRaw step3 step step2e (diff (curve C (i 0) (i 1)) 0) (diff (curve C (i 0) (i 1)) 1) := by
    rw [val_main_v67_apply, val_main_v66_apply, h65, val_main_v59_apply, val_main_v58_apply, val_main_v57_apply,
      show val_main_v54 (F := Ideal) K _ = step from h44 _, val_main_v52_apply, val_main_v51_apply, h48, ha, hb]
    rfl
  have hpos : val_main_v74 (F := Ideal) K C i
      = endPos (endRaw step3 step step2e (diff (curve C (i 0) (i 1)) 0) (diff (curve C (i 0) (i 1)) 1))
        (diff (curve C (i 0) (i 1)) 0) := by
    rw [val_main_v74_apply, val_main_v72_apply, val_main_v70_apply, hraw,
      show val_main_v69 (F := Ideal) K C i = _ from ha]
    rfl
  rw [val_main_v94_apply, val_main_v89_apply, val_main_v88_apply, val_main_v87_apply, val_main_v85_apply,
    val_main_v82_apply, val_main_v81_apply, val_main_v79_apply, val_main_v93_apply, hpos,
    show val_main_v76 (F := Ideal) K C i = _ from ha, show val_main_v78 (F := Ideal) K C i = _ from hb,
    show val_main_v84 (F := Ideal) K C i = _ from ha, show val_main_v91 (F := Ideal) K C i = _ from ha]
  rfl

/-- The slope at the last knot. -/
theorem ref_last (i : S128x128.Idx) :
    val_main_v146 (F := Ideal) K C i = slope (curve C (i 0) (i 1)) 15 := by
  have hs (s : Shape) (t : Shape) (x : s.Idx → EReal) (h : s.ShapeCasts t) := shapeCast_all x h step
  have h96 (z) : val_main_v96 (F := Ideal) K z = step :=
    hs _ _ _ _ (fun j => by rw [val_main_v95_apply, knot_step hK]) z
  have h99 (z) : val_main_v99 (F := Ideal) K z = step :=
    hs _ _ _ _ (fun j => by rw [val_main_v98_apply, knot_step hK]) z
  have h100 (z) : val_main_v100 (F := Ideal) K z = step3 := by
    rw [val_main_v100_apply, val_main_v97_apply, h96, h99]
    exact (congrArg (fun a => a * step + step) lit2).trans two_step_add
  have h117 (z) : val_main_v117 (F := Ideal) K z = step2e := by
    rw [val_main_v117_apply, val_main_v116_apply, show val_main_v113 (F := Ideal) K z = step from h96 z,
      show val_main_v115 (F := Ideal) K z = step from h99 z]
    exact step_add_step
  have ha : val_main_v102 (F := Ideal) K C i = diff (curve C (i 0) (i 1)) 14 := by
    rw [val_main_v102_apply, val_main_v101_apply]
    exact read_diff hK C _ (row_flat i) (col_flat i) rfl
  have hb : val_main_v108 (F := Ideal) K C i = diff (curve C (i 0) (i 1)) 13 := by
    rw [val_main_v108_apply, val_main_v107_apply]
    exact read_diff hK C _ (row_flat i) (col_flat i) rfl
  have hraw : val_main_v119 (F := Ideal) K C i
      = endRaw step3 step step2e (diff (curve C (i 0) (i 1)) 14) (diff (curve C (i 0) (i 1)) 13) := by
    rw [val_main_v119_apply, val_main_v118_apply, h117, val_main_v111_apply, val_main_v110_apply,
      val_main_v109_apply, show val_main_v106 (F := Ideal) K _ = step from h96 _, val_main_v104_apply,
      val_main_v103_apply, h100, ha, hb]
    rfl
  have hpos : val_main_v126 (F := Ideal) K C i
      = endPos (endRaw step3 step step2e (diff (curve C (i 0) (i 1)) 14) (diff (curve C (i 0) (i 1)) 13))
        (diff (curve C (i 0) (i 1)) 14) := by
    rw [val_main_v126_apply, val_main_v124_apply, val_main_v122_apply, hraw,
      show val_main_v121 (F := Ideal) K C i = _ from ha]
    rfl
  rw [val_main_v146_apply, val_main_v141_apply, val_main_v140_apply, val_main_v139_apply, val_main_v137_apply,
    val_main_v134_apply, val_main_v133_apply, val_main_v131_apply, val_main_v145_apply, hpos,
    show val_main_v128 (F := Ideal) K C i = _ from ha, show val_main_v130 (F := Ideal) K C i = _ from hb,
    show val_main_v136 (F := Ideal) K C i = _ from ha, show val_main_v143 (F := Ideal) K C i = _ from ha]
  rfl

/-- The table of slopes: at every knot of every curve, the scalar slope there. -/
theorem ref_slopes (j : S128x128x16.Idx) :
    val_main_v149 (F := Ideal) K C j = slope (curve C (j 0) (j 1)) (j 2).val := by
  have hlt : (j 2).val < 16 := (j 2).isLt
  have hoff (n : ℕ) (q : (⟨3, ![128, 128, n]⟩ : Shape).Idx) (h0 : (q 0).val = (j 0).val)
      (h1 : (q 1).val = (j 1).val) : ∀ b : Fin 3, b.cast rfl ≠ (2 : Fin 3) → (q b).val = (j (b.cast rfl)).val := by
    intro b hb
    match b with
    | ⟨0, _⟩ => exact h0
    | ⟨1, _⟩ => exact h1
    | ⟨2, _⟩ => exact absurd rfl hb
  unfold val_main_v149
  generalize h0 : val_main_v147 (F := Ideal) K C = x₀
  generalize h1 : val_main_v42 (F := Ideal) K C = x₁
  generalize h2 : val_main_v148 (F := Ideal) K C = x₂
  by_cases hk0 : (j 2).val = 0
  · refine (concatenate_apply_piece 2 [⟨S128x128x1, x₀⟩, ⟨S128x128x14, x₁⟩, ⟨S128x128x1, x₂⟩] _ j 0 (show 0 < 3 by decide) S128x128x1 x₀ rfl
      rfl 0 rfl (ix3 (j 0) (j 1) (0 : Fin 1)) (hoff 1 _ rfl rfl) hk0.symm).trans ?_
    rw [← h0, val_main_v147_apply, ref_first hK, hk0]
    rfl
  · by_cases hk15 : (j 2).val = 15
    · refine (concatenate_apply_piece 2 [⟨S128x128x1, x₀⟩, ⟨S128x128x14, x₁⟩, ⟨S128x128x1, x₂⟩] _ j 2 (show 2 < 3 by decide) S128x128x1 x₂ rfl
        rfl 15 rfl (ix3 (j 0) (j 1) (0 : Fin 1)) (hoff 1 _ rfl rfl) hk15.symm).trans ?_
      rw [← h2, val_main_v148_apply, ref_last hK, hk15]
      rfl
    · refine (concatenate_apply_piece 2 [⟨S128x128x1, x₀⟩, ⟨S128x128x14, x₁⟩, ⟨S128x128x1, x₂⟩] _ j 1 (show 1 < 3 by decide) S128x128x14 x₁ rfl
        rfl 1 rfl (ix3 (j 0) (j 1) (⟨(j 2).val - 1, by omega⟩ : Fin 14)) (hoff 14 _ rfl rfl)
        (show 1 + ((j 2).val - 1) = (j 2).val by omega)).trans ?_
      rw [← h1, ref_mid hK]
      exact congrArg (slope (curve C (j 0) (j 1))) (show (j 2).val - 1 + 1 = (j 2).val by omega)

end Cert.Spline
end
-- ==== Proof.KernelValue.lean ====
module

public import proofs.«01_k».proof.Proof.KSum
public import proofs.«01_k».proof.Proof.RefSlopes
public import proofs.«01_k».proof.Proof.Gen.KernelIdeal.Value

@[expose] public section

noncomputable section

/-! What the kernel's result array holds after the run, from the arguments. -/

namespace Cert.Spline
open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The coefficients as the host hands them to the kernel: the knots first, then the inputs, then the outputs. -/
theorem host_coefs : V m c main_call0_v1
    = transpose S16x128x128 [2, 1, 0] (m ((c : Thread nD τ).loc main_arg2)) transposes_S128x128x16_S16x128x128_2_1_0 := by
  unfold V
  simp only [hostOps0, StableHlo.TRef.unary, StableHlo.TRef.reshape, StableHlo.TRef.toBuf, StableHlo.TRef.ofBuf, cast_eq]
  after_results_simp
  rfl

/-- The bias as the host hands it to the kernel: one row. -/
theorem host_bias : V m c main_call0_v2
    = shapeCast S1x128 (m ((c : Thread nD τ).loc main_arg3)) shapeCasts_S128_S1x128 := by
  unfold V
  simp only [hostOps0, StableHlo.TRef.unary, StableHlo.TRef.reshape, StableHlo.TRef.toBuf, StableHlo.TRef.ofBuf, cast_eq]
  after_results_simp
  rfl

/-- The kernel's one block of inputs is the whole array. -/
theorem block_inputs : (iblk m c 0 t0_0 : Vec Ideal S2048x128 .f32) = m ((c : Thread nD τ).loc main_arg0) := by
  have hz : (fun a => win0_0.index t0_0 a * main_arg0.ty.shape.size a) = fun _ => 0 :=
    funext fun a => by fin_cases a <;> decide
  exact (Memref.read_access_unit_zero (Elt Ideal) main_arg0 hz (fun a => by rw [congrFun hz a]; simp)
    (V m c main_arg0)).trans (V_main_arg0 m c)

/-- The kernel's one block of coefficients is the whole array. -/
theorem block_coefs : (iblk m c 1 t0_0 : Vec Ideal S16x128x128 .bf16) = V m c main_call0_v1 := by
  have hz : (fun a => win0_1.index t0_0 a * main_call0_v1.ty.shape.size a) = fun _ => 0 :=
    funext fun a => by fin_cases a <;> decide
  exact Memref.read_access_unit_zero (Elt Ideal) main_call0_v1 hz (fun a => by rw [congrFun hz a]; simp)
    (V m c main_call0_v1)

/-- The kernel's one block of biases is the whole row. -/
theorem block_bias : (iblk m c 2 t0_0 : Vec Ideal S1x128 .f32) = V m c main_call0_v2 := by
  have hz : (fun a => win0_2.index t0_0 a * main_call0_v2.ty.shape.size a) = fun _ => 0 :=
    funext fun a => by fin_cases a <;> decide
  exact Memref.read_access_unit_zero (Elt Ideal) main_call0_v2 hz (fun a => by rw [congrFun hz a]; simp)
    (V m c main_call0_v2)

/-- The kernel's result: the bias row plus the weights of the inputs times the scratch of the coefficients. -/
abbrev result : Buf (Elt Ideal) ((c : Thread nD τ).loc main_v0) :=
  k0_pay9 (weights (m ((c : Thread nD τ).loc main_arg0))) (V m c main_call0_v2) (scratch (V m c main_call0_v1))

/-- The one write-back writes the result. -/
theorem flushed_eq (t : Fin cfg0.N) (_ : (cfg0.win 3).flush t = true) :
    (dats m 0 c).flushed 3 t = ((cfg0.win 3).blk t).view.read (Elt Ideal) (result m c) := by
  obtain rfl : t = t0_0 := fin_N0 t
  rw [Cert.KernelIdeal.Value.flushed3, outs_eq, block_inputs, block_coefs, block_bias]
  have hz : (fun a => win0_3.index t0_0 a * main_v0.ty.shape.size a) = fun _ => 0 :=
    funext fun a => by fin_cases a <;> decide
  exact (Memref.read_access_unit_zero (Elt Ideal) main_v0 hz (fun a => by rw [congrFun hz a]; simp) (result m c)).symm

/-- After the run the result array holds the result: its one block is all of it. -/
theorem final_eq : (dats m 0 c).arrAt 3 cfg0.N = result m c :=
  (dats m 0 c).arrAt_eq_of_cover 3 (result m c) (flushed_eq m c) fun i =>
    ⟨t0_0, flush0_3 t0_0, by
      show i ∈ ((View.whole main_v0).slice (win0_3.rect t0_0)).set
      rw [View.set_slice_whole, Rect.mem_set_unit]
      intro a
      have h0 : (i 0 : Nat) < 2048 := (i 0).isLt
      have h1 : (i 1 : Nat) < 128 := (i 1).isLt
      match a with
      | ⟨0, _⟩ =>
        show win0_3.index t0_0 0 * win0_3.size 0 ≤ (i 0 : Nat)
          ∧ (i 0 : Nat) < win0_3.index t0_0 0 * win0_3.size 0 + win0_3.xsize (grid0.coords t0_0) 0
        rw [show win0_3.index t0_0 0 * win0_3.size 0 = 0 from by decide +kernel,
          show win0_3.xsize (grid0.coords t0_0) 0 = 2048 from by decide +kernel]
        omega
      | ⟨1, _⟩ =>
        show win0_3.index t0_0 1 * win0_3.size 1 ≤ (i 1 : Nat)
          ∧ (i 1 : Nat) < win0_3.index t0_0 1 * win0_3.size 1 + win0_3.xsize (grid0.coords t0_0) 1
        rw [show win0_3.index t0_0 1 * win0_3.size 1 = 0 from by decide +kernel,
          show win0_3.xsize (grid0.coords t0_0) 1 = 128 from by decide +kernel]
        omega⟩

/-- The kernel's curves are the coefficients' own. -/
theorem coef_eq (i o : Fin 128) :
    coef (V m c main_call0_v1) i o = curve (m ((c : Thread nD τ).loc main_arg2)) o i := by
  funext k
  rw [host_coefs]
  refine congrArg (m ((c : Thread nD τ).loc main_arg2)) (funext fun a => ?_)
  match a with
  | ⟨0, _⟩ => rfl
  | ⟨1, _⟩ => rfl
  | ⟨2, _⟩ => rfl

/-- The bias of an output. -/
abbrev bias (o : Fin 128) : EReal := m ((c : Thread nD τ).loc main_arg3) (ix1 o)

/-- The kernel's bias row holds the bias. -/
theorem bias_eq (o : Fin 128) :
    (V m c main_call0_v2 : Vec Ideal S1x128 .f32) (ix2 0 o) = bias m c o := by
  rw [host_bias]
  refine (shapeCast_addUnit_apply ![128] _ _ (ix2 (0 : Fin 1) o)).trans (congrArg _ (funext fun a => ?_))
  match a with
  | ⟨0, _⟩ => rfl

/-- The kernel's result at an output, for inputs within the grid: the bias plus the sum of the curves. -/
theorem result_value (x : S2048x128.Idx → ℝ) (hX : ∀ i, m ((c : Thread nD τ).loc main_arg0) i = (x i : EReal))
    (hx0 : ∀ i, 0 ≤ x i) (hx1 : ∀ i, x i ≤ 1) (b : Fin 2048) (o : Fin 128) :
    (result m c : Vec Ideal S2048x128 .f32) (ix2 b o) = bias m c o
      + ∑ i : Fin 128, spline (curve (m ((c : Thread nD τ).loc main_arg2)) o i) (x (ix2 b i)) := by
  refine (kernel_value _ _ x hX hx0 hx1 b o).trans ?_
  rw [bias_eq]
  exact congrArg _ (Finset.sum_congr rfl fun i _ => congrArg (fun f => spline f _) (coef_eq m c i o))

end Cert.Spline
end
-- ==== Proof.RefGather.lean ====
module

public import proofs.«01_k».proof.Proof.RefSlopes
public import proofs.«01_k».proof.Proof.Cell

@[expose] public section

noncomputable section

/-!
The four gathers of the reference: each reads a table at the output's row, the input's column, and a knot.
-/

namespace Cert.Spline
open Cert.ReferenceIdeal Cert.ReferenceIdeal.Read Idealize.ShloMosaic Idealize.ShloMosaic.ValueIdx

/-- Where the index array holds coordinate `a` of the element gathered at `y`. -/
abbrev spot (y : S2048x128x128.Idx) (a : Fin 3) : S2048x128x128x3.Idx := fun b => match b with
  | ⟨0, _⟩ => y 0
  | ⟨1, _⟩ => y 1
  | ⟨2, _⟩ => y 2
  | ⟨3, _⟩ => a

/-- A gather of the reference, of any table at any index array: the table at the three indices held at the element's
place, each read signed and clamped to its axis. -/
theorem gather_apply (X : S128x128x16.Idx → EReal) (I : IVec S2048x128x128x3 32) (y : S2048x128x128.Idx) :
    Host.gather gather_S128x128x16_S2048x128x128x3_S2048x128x128_n_012_n_n_012_3_111 X I y
      = X (ix3 (⟨min (I (spot y 0)).toInt.toNat 127, by omega⟩ : Fin 128)
          (⟨min (I (spot y 1)).toInt.toNat 127, by omega⟩ : Fin 128)
          (⟨min (I (spot y 2)).toInt.toNat 15, by omega⟩ : Fin 16)) := by
  set d := gather_S128x128x16_S2048x128x128x3_S2048x128x128_n_012_n_n_012_3_111 with hd
  have hmem (a : Fin 3) : a ∈ d.startIndexMap := by
    show a ∈ ([0, 1, 2] : List (Fin 3)); revert a; decide
  have hsi (a : Fin 3) : d.siIdx y ⟨d.startIndexMap.idxOf a, List.idxOf_lt_length_iff.2 (hmem a)⟩ = spot y a := by
    funext b
    refine Fin.ext ?_
    match b with
    | ⟨0, _⟩ => rfl
    | ⟨1, _⟩ => rfl
    | ⟨2, _⟩ => rfl
    | ⟨3, _⟩ =>
      show List.idxOf a ([0, 1, 2] : List (Fin 3)) = a.val
      revert a; decide
  have key (a : Fin 3) : (d.operandIdx y I a).val
      = min (I (spot y a)).toInt.toNat (S128x128x16.size a - d.sliceSizes a) := by
    show d.start y I a + d.batchCoord y a + d.offCoord y a = _
    rw [GatherDims.batchCoord_eq_zero _ _ _ List.not_mem_nil,
      GatherDims.offCoord_eq_zero _ _ _ (fun h => ((GatherDims.mem_sKept _ _).mp h).1 (hmem a))]
    simp only [Nat.add_zero]
    unfold GatherDims.start
    rw [dif_pos (hmem a), hsi a]
  refine congrArg X (funext fun a => Fin.ext ?_)
  match a with
  | ⟨0, _⟩ => exact key 0
  | ⟨1, _⟩ => exact key 1
  | ⟨2, _⟩ => exact key 2

/-- A small natural number's word, read signed, is the number. -/
theorem toNat_word {n : ℕ} (h : n < 1024) : (BitVec.ofNat 32 n).toInt.toNat = n := by
  rw [BitVec.toInt_ofNat']
  have : ((n : ℤ)).bmod (2 ^ 32) = n := by
    rw [Int.bmod_eq_of_le] <;> omega
  omega

/-- An index that is not negative is not moved by the wrapping of negative indices. -/
theorem wrap_word {n : ℕ} (h : n < 1024) (s : BitVec 32) :
    Scalar.select (IntOp.cmpi .slt (BitVec.ofNat 32 n) 0#32) (IntOp.addi (BitVec.ofNat 32 n) s) (BitVec.ofNat 32 n)
      = BitVec.ofNat 32 n := by
  have hf : (BitVec.ofNat 32 n).slt 0#32 = false := by
    rw [BitVec.slt, decide_eq_false_iff_not, not_lt]
    have h1 : (BitVec.ofNat 32 n).toInt = (n : ℤ) := by
      rw [BitVec.toInt_ofNat', Int.bmod_eq_of_le] <;> omega
    rw [h1, BitVec.toInt_zero]
    omega
  show Scalar.select (BitVec.ofBool ((BitVec.ofNat 32 n).slt 0#32)) _ _ = _
  rw [hf]; rfl

/-- Three columns of indices side by side, read at a coordinate. -/
theorem columns_apply (P Q R : S2048x128x128x1.Idx → BitVec 32)
    (h : Shape.Concatenates ([⟨S2048x128x128x1, P⟩, ⟨S2048x128x128x1, Q⟩, ⟨S2048x128x128x1, R⟩].map
      fun p : (s : Shape) × (s.Idx → BitVec 32) => p.1) S2048x128x128x3 3)
    (y : S2048x128x128.Idx) (q : S2048x128x128x1.Idx) (h0 : (q 0).val = (y 0).val) (h1 : (q 1).val = (y 1).val)
    (h2 : (q 2).val = (y 2).val) :
    concatenate S2048x128x128x3 3 [⟨S2048x128x128x1, P⟩, ⟨S2048x128x128x1, Q⟩, ⟨S2048x128x128x1, R⟩] h (spot y 0) = P q
    ∧ concatenate S2048x128x128x3 3 [⟨S2048x128x128x1, P⟩, ⟨S2048x128x128x1, Q⟩, ⟨S2048x128x128x1, R⟩] h (spot y 1) = Q q
    ∧ concatenate S2048x128x128x3 3 [⟨S2048x128x128x1, P⟩, ⟨S2048x128x128x1, Q⟩, ⟨S2048x128x128x1, R⟩] h (spot y 2)
      = R q := by
  have h3 : (q 3).val = 0 := Nat.lt_one_iff.mp (q 3).isLt
  have hoff (a : Fin 3) : ∀ b : Fin 4, b.cast rfl ≠ (3 : Fin 4) → (q b).val = (spot y a (b.cast rfl)).val := by
    intro b hb
    match b with
    | ⟨0, _⟩ => exact h0
    | ⟨1, _⟩ => exact h1
    | ⟨2, _⟩ => exact h2
    | ⟨3, _⟩ => exact absurd rfl hb
  refine ⟨?_, ?_, ?_⟩
  · exact concatenate_apply_piece 3 [⟨S2048x128x128x1, P⟩, ⟨S2048x128x128x1, Q⟩, ⟨S2048x128x128x1, R⟩] h (spot y 0) 0
      (show 0 < 3 by decide) S2048x128x128x1 P rfl rfl 0 rfl q (hoff 0) (show 0 + (q 3).val = 0 by omega)
  · exact concatenate_apply_piece 3 [⟨S2048x128x128x1, P⟩, ⟨S2048x128x128x1, Q⟩, ⟨S2048x128x128x1, R⟩] h (spot y 1) 1
      (show 1 < 3 by decide) S2048x128x128x1 Q rfl rfl 1 rfl q (hoff 1) (show 1 + (q 3).val = 1 by omega)
  · exact concatenate_apply_piece 3 [⟨S2048x128x128x1, P⟩, ⟨S2048x128x128x1, Q⟩, ⟨S2048x128x128x1, R⟩] h (spot y 2) 2
      (show 2 < 3 by decide) S2048x128x128x1 R rfl rfl 2 rfl q (hoff 2) (show 2 + (q 3).val = 2 by omega)

/-- A gather at three columns of in-range indices reads the table at the three indices. -/
theorem gather_columns (T : S128x128x16.Idx → EReal) (P Q R : S2048x128x128x1.Idx → BitVec 32)
    (h : Shape.Concatenates ([⟨S2048x128x128x1, P⟩, ⟨S2048x128x128x1, Q⟩, ⟨S2048x128x128x1, R⟩].map
      fun p : (s : Shape) × (s.Idx → BitVec 32) => p.1) S2048x128x128x3 3)
    (y : S2048x128x128.Idx) (o i : Fin 128) (n : ℕ) (hn : n ≤ 15)
    (hP : P (ix4 (y 0) (y 1) (y 2) (0 : Fin 1)) = BitVec.ofNat 32 o.val)
    (hQ : Q (ix4 (y 0) (y 1) (y 2) (0 : Fin 1)) = BitVec.ofNat 32 i.val)
    (hR : R (ix4 (y 0) (y 1) (y 2) (0 : Fin 1)) = BitVec.ofNat 32 n) :
    Host.gather gather_S128x128x16_S2048x128x128x3_S2048x128x128_n_012_n_n_012_3_111 T
      (concatenate S2048x128x128x3 3 [⟨S2048x128x128x1, P⟩, ⟨S2048x128x128x1, Q⟩, ⟨S2048x128x128x1, R⟩] h) y
      = T (ix3 o i (Fin.ofNat 16 n)) := by
  have ho := o.isLt
  have hi := i.isLt
  obtain ⟨e0, e1, e2⟩ := columns_apply P Q R h y (ix4 (y 0) (y 1) (y 2) (0 : Fin 1)) rfl rfl rfl
  rw [gather_apply]
  refine congrArg T (funext fun a => Fin.ext ?_)
  match a with
  | ⟨0, _⟩ =>
    show min (BitVec.toInt _).toNat 127 = o.val
    rw [e0, hP, toNat_word (by omega)]; omega
  | ⟨1, _⟩ =>
    show min (BitVec.toInt _).toNat 127 = i.val
    rw [e1, hQ, toNat_word (by omega)]; omega
  | ⟨2, _⟩ =>
    show min (BitVec.toInt _).toNat 15 = n % 16
    rw [e2, hR, toNat_word (by omega)]; omega

end Cert.Spline
end
-- ==== Proof.RefEval.lean ====
module

public import proofs.«01_k».proof.Proof.RefGather

@[expose] public section

noncomputable section

/-!
The reference at an output: the sum over the inputs of each curve at its input, and the bias.
-/

namespace Cert.Spline
open Cert.ReferenceIdeal Cert.ReferenceIdeal.Read Idealize.ShloMosaic Idealize.ShloMosaic.ValueIdx

/-- An array of inputs. -/
abbrev Inputs := Vec Ideal S2048x128 .f32

/-- The column of output rows. -/
theorem ref_rows (q : S2048x128x128x1.Idx) : val_main_v196 (F := Ideal) q = BitVec.ofNat 32 (q 1).val := by
  have h : (q 1).val < 128 := (q 1).isLt
  rw [val_main_v196_apply, val_main_v194_apply, val_main_v183_apply, val_main_v180_apply, val_main_v182_apply,
    val_main_v176_apply, val_main_v175_apply]
  exact wrap_word (by show (q 1).val < 1024; omega) _

/-- The column of input columns. -/
theorem ref_cols (q : S2048x128x128x1.Idx) : val_main_v197 (F := Ideal) q = BitVec.ofNat 32 (q 2).val := by
  have h : (q 2).val < 128 := (q 2).isLt
  rw [val_main_v197_apply, val_main_v195_apply, val_main_v188_apply, val_main_v185_apply, val_main_v187_apply,
    val_main_v178_apply, val_main_v177_apply]
  exact wrap_word (by show (q 2).val < 1024; omega) _

variable {K : Knots} (hK : Even K) {X : Inputs} (C : Coefs) {j : S2048x128x128.Idx} {r : ℝ}

include hK

/-- The first knot is zero. -/
theorem ref_x0 (z : S_.Idx) : val_main_v153 (F := Ideal) K z = 0 := by
  refine shapeCast_all _ _ _ (fun q => ?_) z
  rw [val_main_v152_apply, hK]
  have : (q 0).val = 0 := Nat.lt_one_iff.mp (q 0).isLt
  show ((((q 0).val : ℝ) / 15 : ℝ) : EReal) = 0
  rw [this]; simp

/-- The last knot is one. -/
theorem ref_xN (z : S_.Idx) : val_main_v155 (F := Ideal) K z = 1 := by
  refine shapeCast_all _ _ _ (fun q => ?_) z
  rw [val_main_v154_apply, hK]
  have : (q 0).val = 0 := Nat.lt_one_iff.mp (q 0).isLt
  show ((((15 + (q 0).val : ℕ) : ℝ) / 15 : ℝ) : EReal) = 1
  rw [this, ← EReal.coe_one]
  refine congrArg _ ?_
  norm_num

/-- The reference's step. -/
theorem ref_dx (z : S_.Idx) : val_main_v164 (F := Ideal) K z = step := by
  rw [val_main_v164_apply, val_main_v163_apply, ref_xN hK, ref_x0 hK]
  show Ideal.div ((1 : EReal) - 0) (Ideal.ofBits .f32 0x41700000#32) = step
  rw [lit15, sub_zero, Ideal.div_coe (by norm_num), one_mul]
  rfl

omit hK in
/-- The input an element reads. -/
theorem ref_input (hx : X (ix2 (j 0) (j 2)) = (r : EReal)) : val_main_v151 (F := Ideal) X j = (r : EReal) := by
  rw [val_main_v151_apply, val_main_v150_apply, ← hx]
  refine congrArg X (funext fun a => ?_)
  match a with
  | ⟨0, _⟩ => rfl
  | ⟨1, _⟩ => rfl

variable (hx : X (ix2 (j 0) (j 2)) = (r : EReal)) (h0 : 0 ≤ r) (h1 : r ≤ 1)
include hx

/-- The input's position. -/
theorem ref_u : val_main_v169 (F := Ideal) X K j = (pos r : EReal) := by
  rw [val_main_v169_apply, val_main_v166_apply, val_main_v168_apply, val_main_v167_apply, ref_dx hK,
    val_main_v165_apply, ref_x0 hK, ref_input hx]
  exact ref_pos r

include h0 h1

/-- The input's interval, as a word. -/
theorem ref_cell : val_main_v172 (F := Ideal) X K j = BitVec.ofNat 32 (cell r) := by
  have hle := cell_le h0 h1
  have h171 : val_main_v171 (F := Ideal) X K j = BitVec.ofNat 32 (cell r) := by
    rw [val_main_v171_apply, val_main_v170_apply, ref_u hK hx]
    show BitVec.ofInt 32 (max _ (min _ (if (0 : ℝ) ≤ ((⌊pos r⌋ : ℤ) : ℝ) then ⌊((⌊pos r⌋ : ℤ) : ℝ)⌋ else _))) = _
    rw [floor_pos h0, if_pos (by positivity), Int.floor_intCast, ← BitVec.ofInt_natCast]
    refine congrArg _ ?_
    norm_num
    omega
  rw [val_main_v172_apply, val_main_call5_v2_apply, h171]
  show IntOp.minsi 14#32 (IntOp.maxsi 0#32 (BitVec.ofNat 32 (cell r))) = _
  generalize cell r = n at hle
  interval_cases n <;> rfl

/-- The input's place in its interval. -/
theorem ref_frac : val_main_v174 (F := Ideal) X K j = (frac r : EReal) := by
  have hle := cell_le h0 h1
  have h173 : val_main_v173 (F := Ideal) X K j = ((cell r : ℝ) : EReal) := by
    rw [val_main_v173_apply, ref_cell hK hx h0 h1]
    show (((BitVec.ofNat 32 (cell r)).toInt : ℝ) : EReal) = _
    refine congrArg _ ?_
    have : (BitVec.ofNat 32 (cell r)).toInt = (cell r : ℤ) := by
      rw [BitVec.toInt_ofNat', Int.bmod_eq_of_le] <;> omega
    rw [this]; simp
  rw [val_main_v174_apply, ref_u hK hx, h173]
  exact pos_sub_cell r

/-- A table gathered at the input's interval. -/
theorem gather_left (T : S128x128x16.Idx → EReal) :
    Host.gather gather_S128x128x16_S2048x128x128x3_S2048x128x128_n_012_n_n_012_3_111 T
      (val_main_v199 (F := Ideal) X K) j = T (ix3 (j 1) (j 2) (Fin.ofNat 16 (cell r))) := by
  have hle := cell_le h0 h1
  refine gather_columns T _ _ _ _ j (j 1) (j 2) (cell r) (by omega) (ref_rows _) (ref_cols _) ?_
  rw [val_main_v198_apply, val_main_v193_apply, val_main_v190_apply, val_main_v192_apply]
  have hc : val_main_v172 (F := Ideal) X K (idx_main_v198 (ix4 (j 0) (j 1) (j 2) (0 : Fin 1)))
      = BitVec.ofNat 32 (cell r) := ref_cell hK (j := idx_main_v198 (ix4 (j 0) (j 1) (j 2) (0 : Fin 1))) hx h0 h1
  rw [hc]
  exact wrap_word (by omega) _

/-- A table gathered at the knot after the input's interval. -/
theorem gather_right (T : S128x128x16.Idx → EReal) :
    Host.gather gather_S128x128x16_S2048x128x128x3_S2048x128x128_n_012_n_n_012_3_111 T
      (val_main_v223 (F := Ideal) X K) j = T (ix3 (j 1) (j 2) (Fin.ofNat 16 (cell r + 1))) := by
  have hle := cell_le h0 h1
  refine gather_columns T _ _ _ _ j (j 1) (j 2) (cell r + 1) (by omega) (ref_rows _) (ref_cols _) ?_
  rw [val_main_v222_apply, val_main_v217_apply, val_main_v214_apply, val_main_v216_apply]
  have hc : val_main_v202 (F := Ideal) X K (idx_main_v222 (ix4 (j 0) (j 1) (j 2) (0 : Fin 1)))
      = BitVec.ofNat 32 (cell r + 1) := by
    rw [val_main_v202_apply,
      ref_cell hK (j := idx_main_v222 (ix4 (j 0) (j 1) (j 2) (0 : Fin 1))) hx h0 h1, BitVec.ofNat_add]
    rfl
  rw [hc]
  exact wrap_word (by omega) _

/-- One curve of the reference at one input. -/
theorem ref_edge : val_main_v328 (F := Ideal) X K C j = spline (curve C (j 1) (j 2)) r := by
  have hle := cell_le h0 h1
  have hl : val_main_v157 (F := Ideal) X K j = 0#1 := by
    rw [val_main_v157_apply, val_main_v156_apply, ref_x0 hK, ref_input hx]
    show BitVec.ofBool (decide ((r : EReal) < 0)) = 0#1
    rw [decide_eq_false (not_lt.2 (EReal.coe_nonneg.2 h0))]; rfl
  have hr : val_main_v159 (F := Ideal) X K j = 0#1 := by
    rw [val_main_v159_apply, val_main_v158_apply, ref_xN hK, ref_input hx]
    show BitVec.ofBool (decide ((1 : EReal) < (r : EReal))) = 0#1
    rw [decide_eq_false (not_lt.2 (by exact_mod_cast h1))]; rfl
  have hm : val_main_v162 (F := Ideal) X K j = 1#1 := by
    rw [val_main_v162_apply, val_main_v160_apply, val_main_v161_apply, hl, hr]; rfl
  have hy0 : val_main_v200 (F := Ideal) X K C j = curve C (j 1) (j 2) (cell r) := gather_left hK hx h0 h1 C
  have hy1 : val_main_v224 (F := Ideal) X K C j = curve C (j 1) (j 2) (cell r + 1) := gather_right hK hx h0 h1 C
  have hm0 : val_main_v246 (F := Ideal) X K C j = slope (curve C (j 1) (j 2)) (cell r) := by
    refine (gather_left hK hx h0 h1 (val_main_v149 (F := Ideal) K C)).trans ?_
    rw [ref_slopes hK]
    exact congrArg (slope _) (Nat.mod_eq_of_lt (by omega))
  have hm1 : val_main_v270 (F := Ideal) X K C j = slope (curve C (j 1) (j 2)) (cell r + 1) := by
    refine (gather_right hK hx h0 h1 (val_main_v149 (F := Ideal) K C)).trans ?_
    rw [ref_slopes hK]
    exact congrArg (slope _) (Nat.mod_eq_of_lt (by omega))
  have ht := ref_frac hK hx h0 h1
  have ht2 : val_main_v271 (F := Ideal) X K j = (frac r : EReal) * (frac r : EReal) := by
    rw [val_main_v271_apply, ht]; rfl
  have ht3 : val_main_v272 (F := Ideal) X K j = (frac r : EReal) * (frac r : EReal) * (frac r : EReal) := by
    rw [val_main_v272_apply, ht2, ht]; rfl
  have h00 : val_main_v279 (F := Ideal) X K j = Spline.h00 (frac r) := by
    rw [val_main_v279_apply, val_main_v277_apply, val_main_v274_apply, val_main_v276_apply, ht2, ht3, Spline.h00,
      ← lit2, ← lit3, ← lit1]; rfl
  have h10 : val_main_v292 (F := Ideal) X K j = Spline.h10 (frac r) := by
    rw [val_main_v292_apply, val_main_v291_apply, ref_dx hK, val_main_v283_apply, val_main_v282_apply,
      val_main_v281_apply, ht2, ht3, ht, Spline.h10, ← lit2]; rfl
  have h01 : val_main_v288 (F := Ideal) X K j = Spline.h01 (frac r) := by
    rw [val_main_v288_apply, val_main_v285_apply, val_main_v287_apply, ht2, ht3, Spline.h01, ← litm2, ← lit3]; rfl
  have h11 : val_main_v298 (F := Ideal) X K j = Spline.h11 (frac r) := by
    rw [val_main_v298_apply, val_main_v297_apply, ref_dx hK, val_main_v289_apply, ht2, ht3]; rfl
  rw [val_main_v328_apply, hr, val_main_v327_apply, hl, val_main_v326_apply, hm, val_main_v300_apply,
    val_main_v299_apply, val_main_v296_apply, val_main_v295_apply, val_main_v294_apply, val_main_v293_apply,
    val_main_v290_apply, hy0, hy1, hm0, hm1, h00, h10, h01, h11]
  rfl

omit hx h0 h1 in
/-- The reference at an output: the sum of its curves, and its bias. -/
theorem ref_value (B : Vec Ideal S128 .f32) (x : S2048x128.Idx → ℝ) (hX : ∀ i, X i = (x i : EReal))
    (hx0 : ∀ i, 0 ≤ x i) (hx1 : ∀ i, x i ≤ 1) (b : Fin 2048) (o : Fin 128) :
    val_main_v332 (F := Ideal) X K C B (ix2 b o)
      = (∑ i : Fin 128, spline (curve C o i) (x (ix2 b i))) + B (ix1 o) := by
  rw [val_main_v332_apply, val_main_v329_apply, val_main_v331_apply, val_main_v330_apply]
  show zer + _ + B _ = _
  rw [zer_eq, zero_add]
  refine congrArg₂ _ (Finset.sum_congr rfl fun i _ => ?_) (congrArg B (funext fun a => ?_))
  · exact ref_edge hK C (j := idx_main_v329 (ix2 b o) i) (hX (ix2 b i)) (hx0 _) (hx1 _)
  · match a with
    | ⟨0, _⟩ => rfl

end Cert.Spline
end
-- ==== Proof.Pre.lean ====
module

public import proofs.«01_k».proof.Proof.RefSlopes
public import proofs.«01_k».proof.Proof.Gen.Pre_in_grid
public import proofs.«01_k».proof.Defs

@[expose] public section

noncomputable section

/-! What the precondition says over the extended reals: the knots are the even grid, the inputs are reals within it. -/

namespace Cert.Spline
open Cert.Pre_in_grid Cert.Pre_in_grid.Gen Idealize.ShloMosaic Idealize.ShloMosaic.ValueIdx

attribute [local instance] Cert.Pre_in_grid.Gen.facts

/-- The literal fifteen. -/
theorem grid_lit15 : Ideal.ofBits .f32 0x41700000#32 = ((15 : ℝ) : EReal) := by
  simp [Ideal.ofBits, Ideal.ieee, -EReal.coe_mul]; norm_num

/-- The literal one. -/
theorem grid_lit1 : Ideal.ofBits .f32 0x3F800000#32 = ((1 : ℝ) : EReal) := by
  simp [Ideal.ofBits, Ideal.ieee, -EReal.coe_mul]; norm_num

/-- The literal zero. -/
theorem grid_lit0 : Ideal.ofBits .f32 0x00000000#32 = 0 := by
  simp [Ideal.ofBits, Ideal.ieee]

/-- The grid's inner entries: knot `k` is `k` fifteenths. -/
theorem grid_inner (k : ℕ) : Ideal.ofBits .f32 0x00000000#32
      * (Ideal.ofBits .f32 0x3F800000#32 - Ideal.div ((k : ℝ) : EReal) (Ideal.ofBits .f32 0x41700000#32))
    + Ideal.ofBits .f32 0x3F800000#32 * Ideal.div ((k : ℝ) : EReal) (Ideal.ofBits .f32 0x41700000#32)
    = ((k / 15 : ℝ) : EReal) := by
  rw [grid_lit0, grid_lit1, grid_lit15, zero_mul, zero_add, EReal.coe_one, one_mul, Ideal.div_coe (by norm_num), ← EReal.coe_mul]
  congr 1; ring

/-- Fifteen inner entries and a last one make the even grid. -/
theorem even_of_pieces (x₀ : S15.Idx → EReal) (x₁ : S1.Idx → EReal) (h : Shape.Concatenates [S15, S1] S16 0)
    (h₀ : ∀ k, x₀ k = (((k 0).val / 15 : ℝ) : EReal)) (h₁ : ∀ k, x₁ k = ((1 : ℝ) : EReal)) :
    Even (concatenate S16 0 [⟨S15, x₀⟩, ⟨S1, x₁⟩] h) := by
  intro j
  have hj : (j 0).val < 16 := (j 0).isLt
  by_cases hk : (j 0).val < 15
  · refine (concatenate_apply_piece 0 [⟨S15, x₀⟩, ⟨S1, x₁⟩] _ j 0 (show 0 < 2 by decide) S15 x₀ rfl rfl 0 rfl
      (ix1 (⟨(j 0).val, hk⟩ : Fin 15)) ?_ (Nat.zero_add _)).trans (h₀ _)
    intro b hb
    match b with
    | ⟨0, _⟩ => exact absurd rfl hb
  · refine (concatenate_apply_piece 0 [⟨S15, x₀⟩, ⟨S1, x₁⟩] _ j 1 (show 1 < 2 by decide) S1 x₁ rfl rfl 15 rfl
      (ix1 (0 : Fin 1)) ?_ (show 15 + 0 = (j 0).val by omega)).trans ?_
    · intro b hb
      match b with
      | ⟨0, _⟩ => exact absurd rfl hb
    · rw [h₁, show (j 0).val = 15 by omega]
      norm_num

/-- The grid of the precondition is the even grid. -/
theorem grid_even : Even (fn_linspace (F := Ideal) (constant S_ .f32 0x00000000#32) (constant S_ .f32 0x3F800000#32)) :=
  even_of_pieces _ _ Facts.concatenates_S15_S1_S16_d0 (fun k => by
    rw [← grid_inner]
    have e : sitofp (F := Ideal) .f32 (iotaInDim S15 32 0) k = (((k 0).val : ℝ) : EReal) := by
      show ((((BitVec.ofNat 32 (k 0).val).toInt : ℝ)) : EReal) = _
      have hk : (k 0).val < 15 := (k 0).isLt
      have ht : (BitVec.ofNat 32 (k 0).val).toInt = ((k 0).val : ℤ) := by
        generalize (k 0).val = n at hk
        interval_cases n <;> rfl
      rw [ht, Int.cast_natCast]
    rw [← e]
    rfl) (fun k => by rw [← grid_lit1]; rfl)

variable {X : FVec Ideal S2048x128 .f32} {K : FVec Ideal S16 .f32} {C : FVec Ideal S128x128x16 .f32}
  {B : FVec Ideal S128 .f32}

/-- Under the precondition the knots are the even grid. -/
theorem pre_knots (h : (fn (F := Ideal) X K C B).2 = fun _ => 1#1) : Even K := by
  intro j
  have e := congrFun h j
  have e' : BitVec.ofBool (decide (K j
      = fn_linspace (F := Ideal) (constant S_ .f32 0x00000000#32) (constant S_ .f32 0x3F800000#32) j)) = 1#1 := e
  refine Eq.trans ?_ (grid_even j)
  by_contra hn
  rw [decide_eq_false hn] at e'
  exact absurd e' (by decide)

/-- Under the precondition every input is a real between zero and one. -/
theorem pre_inputs (h : (fn (F := Ideal) X K C B).1 = fun _ => 1#1) (j : S2048x128.Idx) :
    ∃ r : ℝ, X j = (r : EReal) ∧ 0 ≤ r ∧ r ≤ 1 := by
  have e := congrFun h j
  have e' : BitVec.ofBool (decide (Ideal.ofBits .f32 0x00000000#32 ≤ X j))
      &&& BitVec.ofBool (decide (X j ≤ Ideal.ofBits .f32 0x3F800000#32)) = 1#1 := e
  rw [grid_lit0, grid_lit1] at e'
  have h0 : 0 ≤ X j := by
    by_contra hn
    rw [decide_eq_false hn] at e'
    revert e'; cases decide (X j ≤ ((1 : ℝ) : EReal)) <;> decide
  have h1 : X j ≤ ((1 : ℝ) : EReal) := by
    by_contra hn
    rw [decide_eq_false hn] at e'
    revert e'; cases decide (0 ≤ X j) <;> decide
  have ht : X j ≠ ⊤ := fun e => by rw [e, top_le_iff] at h1; exact EReal.coe_ne_top _ h1
  have hb : X j ≠ ⊥ := fun e => by rw [e] at h0; exact absurd h0 (by simp)
  refine ⟨(X j).toReal, (EReal.coe_toReal ht hb).symm, ?_, ?_⟩
  · exact EReal.toReal_nonneg h0
  · rw [← EReal.coe_toReal ht hb] at h1; exact_mod_cast h1

end Cert.Spline
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_grid
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefEval
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The ideal reference terminates without fault from any memory, its arguments unchanged; it has no semaphore. -/
theorem reference_frame : Cert.quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2))
    (Cert.ReferenceIdeal.Value.run (F := Ideal) m ρ)

/-- Each named constant is the rounding of the value it names. -/
theorem preserves : Cert.preserves_Kernel_KernelIdeal :=
  ⟨IdealRules.named_const.statement Cert.KernelIdeal.κ "step" .f32 _ _ rfl,
    IdealRules.named_const.statement Cert.KernelIdeal.κ "three_steps" .f32 _ _ rfl,
    IdealRules.named_const.statement Cert.KernelIdeal.κ "six_steps" .f32 _ _ rfl,
    IdealRules.named_const.statement Cert.KernelIdeal.κ "two_steps_eps" .f32 _ _ rfl,
    IdealRules.named_const.statement Cert.KernelIdeal.κ "inv_step_eps" .f32 _ _ rfl,
    IdealRules.named_const.statement Cert.KernelIdeal.κ "step" .bf16 _ _ rfl⟩

/-- On the even grid, with every input within it, the kernel's result and the reference's are the same array over the
    extended reals: at each output the bias plus the sum of the curves at the inputs. -/
theorem algebraic : Cert.algebraic_KernelIdeal_ReferenceIdeal_pre_in_grid (hKernelIdeal := Cert.KernelIdeal.Gen.facts)
    (hReferenceIdeal := Cert.ReferenceIdeal.Gen.facts) (hPre_in_grid := Cert.Pre_in_grid.Gen.facts) := by
  intro m g m' g' hpre hag
  refine ⟨fun c => Cert.Spline.result m c, ?_, ?_⟩
  · exact (θ_run (Cert.KernelIdeal.defs (F := Ideal)) _ _).mono
      (fun r h c => ⟨(h c).1.trans (Cert.Spline.final_eq m c), (h c).2⟩)
      (Cert.KernelIdeal.Value.run_blocks (F := Ideal) m g)
  · refine (θ_run (Cert.ReferenceIdeal.defs (F := Ideal)) _ _).mono
      (fun r h c => ⟨(h c).1.trans ((Cert.ReferenceIdeal.Read.val_main_v332_eq _).trans ?_), (h c).2⟩)
      (Cert.ReferenceIdeal.Value.run (F := Ideal) m' g')
    obtain ⟨a0, a1, a2, a3⟩ := hag c
    obtain ⟨p0, p1⟩ := hpre c
    have hK := Cert.Spline.pre_knots p1
    choose x hX hx0 hx1 using Cert.Spline.pre_inputs p0
    show Cert.ReferenceIdeal.Read.val_main_v332 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [a0, a1, a2, a3]
    funext j
    rw [ValueIdx.eq_ix2 j]
    refine (Cert.Spline.ref_value hK _ _ x hX hx0 hx1 (j 0) (j 1)).trans ?_
    refine Eq.trans ?_ (Cert.Spline.result_value m c x hX hx0 hx1 (j 0) (j 1)).symm
    exact add_comm _ _

/-- Every claim of the certificate. -/
theorem claim : Cert.Claim :=
  ⟨Cert.Kernel.Gen.facts, Cert.KernelIdeal.Gen.facts, Cert.ReferenceIdeal.Gen.facts, Cert.Pre_in_grid.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    preserves, algebraic⟩

end Cert.Proof

end
